-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelExpm (m : (ℓ : Loc Cert.KernelExpm.nD Cert.KernelExpm.τ Cert.KernelExpm.sig) → Buf (Elt Bits) ℓ) : Prop :=
  True

def Pre_KernelExpmIdeal (m : (ℓ : Loc Cert.KernelExpmIdeal.nD Cert.KernelExpmIdeal.τ Cert.KernelExpmIdeal.sig) → Buf (Elt Ideal) ℓ) : Prop :=
  True

def Pre_ReferenceExpmIdeal (m : (ℓ : Loc Cert.ReferenceExpmIdeal.nD Cert.ReferenceExpmIdeal.τ Cert.ReferenceExpmIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelExpm [hKernelExpm : Cert.KernelExpm.Facts] : Prop :=
  ∀ (m : (ℓ : Loc Cert.KernelExpm.nD Cert.KernelExpm.τ Cert.KernelExpm.sig) → Buf (Elt Bits) ℓ) (g : Dev Cert.KernelExpm.nD → PrngReg), Pre_KernelExpm m →
    θ_run (Cert.KernelExpm.defs (F := Bits)) (onTc (τ := Cert.KernelExpm.τ) (Cert.KernelExpm.main (F := Bits))) ⟨m, fun _ => 0, g⟩ (fun r => (∀ c : Dev Cert.KernelExpm.nD,
      r.2.mem ((c.tc : Thread Cert.KernelExpm.nD Cert.KernelExpm.τ).loc Cert.KernelExpm.main_arg0) = m ((c.tc : Thread Cert.KernelExpm.nD Cert.KernelExpm.τ).loc Cert.KernelExpm.main_arg0))
      ∧ r.2.sem = fun _ => 0)

def quiescent_KernelExpmIdeal [hKernelExpmIdeal : Cert.KernelExpmIdeal.Facts] : Prop :=
  ∀ (m : (ℓ : Loc Cert.KernelExpmIdeal.nD Cert.KernelExpmIdeal.τ Cert.KernelExpmIdeal.sig) → Buf (Elt Ideal) ℓ) (g : Dev Cert.KernelExpmIdeal.nD → PrngReg), Pre_KernelExpmIdeal m →
    θ_run (Cert.KernelExpmIdeal.defs (F := Ideal)) (onTc (τ := Cert.KernelExpmIdeal.τ) (Cert.KernelExpmIdeal.main (F := Ideal))) ⟨m, fun _ => 0, g⟩ (fun r => (∀ c : Dev Cert.KernelExpmIdeal.nD,
      r.2.mem ((c.tc : Thread Cert.KernelExpmIdeal.nD Cert.KernelExpmIdeal.τ).loc Cert.KernelExpmIdeal.main_arg0) = m ((c.tc : Thread Cert.KernelExpmIdeal.nD Cert.KernelExpmIdeal.τ).loc Cert.KernelExpmIdeal.main_arg0))
      ∧ r.2.sem = fun _ => 0)

def quiescent_ReferenceExpmIdeal [hReferenceExpmIdeal : Cert.ReferenceExpmIdeal.Facts] : Prop :=
  ∀ (m : (ℓ : Loc Cert.ReferenceExpmIdeal.nD Cert.ReferenceExpmIdeal.τ Cert.ReferenceExpmIdeal.sig) → Buf (Elt Ideal) ℓ) (g : Dev Cert.ReferenceExpmIdeal.nD → PrngReg), Pre_ReferenceExpmIdeal m →
    θ_run (Cert.ReferenceExpmIdeal.defs (F := Ideal)) (onTc (τ := Cert.ReferenceExpmIdeal.τ) (Cert.ReferenceExpmIdeal.main (F := Ideal))) ⟨m, fun _ => 0, g⟩ (fun r => (∀ c : Dev Cert.ReferenceExpmIdeal.nD,
      r.2.mem ((c.tc : Thread Cert.ReferenceExpmIdeal.nD Cert.ReferenceExpmIdeal.τ).loc Cert.ReferenceExpmIdeal.main_arg0) = m ((c.tc : Thread Cert.ReferenceExpmIdeal.nD Cert.ReferenceExpmIdeal.τ).loc Cert.ReferenceExpmIdeal.main_arg0))
      ∧ r.2.sem = fun _ => 0)

def preserves_Kernel_KernelIdeal : Prop :=
  IdealRules.sign_bit.Statement Cert.KernelIdeal.S512x512 .f32

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelExpm_KernelExpmIdeal : Prop :=
  True

def algebraic_KernelExpmIdeal_ReferenceExpmIdeal [hKernelExpmIdeal : Cert.KernelExpmIdeal.Facts] [hReferenceExpmIdeal : Cert.ReferenceExpmIdeal.Facts] : Prop :=
  ∀ (m : (ℓ : Loc Cert.KernelExpmIdeal.nD Cert.KernelExpmIdeal.τ Cert.KernelExpmIdeal.sig) → Buf (Elt Ideal) ℓ) (g : Dev Cert.KernelExpmIdeal.nD → PrngReg)
    (m' : (ℓ : Loc Cert.ReferenceExpmIdeal.nD Cert.ReferenceExpmIdeal.τ Cert.ReferenceExpmIdeal.sig) → Buf (Elt Ideal) ℓ) (g' : Dev Cert.ReferenceExpmIdeal.nD → PrngReg), Pre_KernelExpmIdeal m →
    (∀ c : Dev Cert.KernelExpmIdeal.nD,
      m' ((c.tc : Thread Cert.ReferenceExpmIdeal.nD Cert.ReferenceExpmIdeal.τ).loc Cert.ReferenceExpmIdeal.main_arg0) = m ((c.tc : Thread Cert.KernelExpmIdeal.nD Cert.KernelExpmIdeal.τ).loc Cert.KernelExpmIdeal.main_arg0)) →
    ∃ (v0 : (c : Dev Cert.KernelExpmIdeal.nD) → Buf (Elt Ideal) ((c.tc : Thread Cert.KernelExpmIdeal.nD Cert.KernelExpmIdeal.τ).loc Cert.KernelExpmIdeal.main_v0)),
      θ_run (Cert.KernelExpmIdeal.defs (F := Ideal)) (onTc (τ := Cert.KernelExpmIdeal.τ) (Cert.KernelExpmIdeal.main (F := Ideal))) ⟨m, fun _ => 0, g⟩ (fun r => ∀ c : Dev Cert.KernelExpmIdeal.nD,
          r.2.mem ((c.tc : Thread Cert.KernelExpmIdeal.nD Cert.KernelExpmIdeal.τ).loc Cert.KernelExpmIdeal.main_v0) = v0 c
          ∧ r.2.mem ((c.tc : Thread Cert.KernelExpmIdeal.nD Cert.KernelExpmIdeal.τ).loc Cert.KernelExpmIdeal.main_arg0) = m ((c.tc : Thread Cert.KernelExpmIdeal.nD Cert.KernelExpmIdeal.τ).loc Cert.KernelExpmIdeal.main_arg0))
      ∧ θ_run (Cert.ReferenceExpmIdeal.defs (F := Ideal)) (onTc (τ := Cert.ReferenceExpmIdeal.τ) (Cert.ReferenceExpmIdeal.main (F := Ideal))) ⟨m', fun _ => 0, g'⟩ (fun r => ∀ c : Dev Cert.ReferenceExpmIdeal.nD,
          r.2.mem ((c.tc : Thread Cert.ReferenceExpmIdeal.nD Cert.ReferenceExpmIdeal.τ).loc Cert.ReferenceExpmIdeal.main_v40) = v0 c
          ∧ r.2.mem ((c.tc : Thread Cert.ReferenceExpmIdeal.nD Cert.ReferenceExpmIdeal.τ).loc Cert.ReferenceExpmIdeal.main_arg0) = m' ((c.tc : Thread Cert.ReferenceExpmIdeal.nD Cert.ReferenceExpmIdeal.τ).loc Cert.ReferenceExpmIdeal.main_arg0))

def Claim : Prop :=
  ∃ (hKernel : Cert.Kernel.Facts) (hKernelIdeal : Cert.KernelIdeal.Facts) (hReferenceIdeal : Cert.ReferenceIdeal.Facts) (hKernelExpm : Cert.KernelExpm.Facts) (hKernelExpmIdeal : Cert.KernelExpmIdeal.Facts) (hReferenceExpmIdeal : Cert.ReferenceExpmIdeal.Facts),
    quiescent_Kernel (hKernel := hKernel)
    ∧ quiescent_KernelIdeal (hKernelIdeal := hKernelIdeal)
    ∧ quiescent_ReferenceIdeal (hReferenceIdeal := hReferenceIdeal)
    ∧ quiescent_KernelExpm (hKernelExpm := hKernelExpm)
    ∧ quiescent_KernelExpmIdeal (hKernelExpmIdeal := hKernelExpmIdeal)
    ∧ quiescent_ReferenceExpmIdeal (hReferenceExpmIdeal := hReferenceExpmIdeal)
    ∧ preserves_Kernel_KernelIdeal
    ∧ algebraic_KernelIdeal_ReferenceIdeal (hKernelIdeal := hKernelIdeal) (hReferenceIdeal := hReferenceIdeal)
    ∧ preserves_KernelExpm_KernelExpmIdeal
    ∧ algebraic_KernelExpmIdeal_ReferenceExpmIdeal (hKernelExpmIdeal := hKernelExpmIdeal) (hReferenceExpmIdeal := hReferenceExpmIdeal)
-- ==== Kernel.lean ====
abbrev S16384x5120 : Shape := ⟨2, ![16384, 5120]⟩
abbrev S512x5120 : Shape := ⟨2, ![512, 5120]⟩
abbrev S512x512 : Shape := ⟨2, ![512, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S5120x512 : Shape := ⟨2, ![5120, 512]⟩
abbrev S128x512 : Shape := ⟨2, ![128, 512]⟩
abbrev S1x128 : Shape := ⟨2, ![1, 128]⟩
abbrev S1x64 : Shape := ⟨2, ![1, 64]⟩
abbrev S_ : Shape := ⟨0, ![]⟩
abbrev S1 : Shape := ⟨1, ![1]⟩
abbrev S16384x64 : Shape := ⟨2, ![16384, 64]⟩
abbrev S512x64 : Shape := ⟨2, ![512, 64]⟩
abbrev S512x1 : Shape := ⟨2, ![512, 1]⟩
abbrev S8x128 : Shape := ⟨2, ![8, 128]⟩
abbrev S8 : Shape := ⟨1, ![8]⟩
abbrev S8x1 : Shape := ⟨2, ![8, 1]⟩
abbrev S512 : Shape := ⟨1, ![512]⟩

abbrev nBuf : Space → Nat
  | .hbm => 14
  | .vmem => 12
  | .smem => 1
  | _ => 0

abbrev bufTy : (tb : Table) → Fin (tcTables nBuf tb) → BufTy
  | .hbm, ⟨0, _⟩ => ⟨S16384x5120, .f32⟩
  | .hbm, ⟨1, _⟩ => ⟨S512x5120, .f32⟩
  | .hbm, ⟨2, _⟩ => ⟨S512x512, .f32⟩
  | .hbm, ⟨3, _⟩ => ⟨S512x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S5120x512, .f32⟩
  | .hbm, ⟨8, _⟩ => ⟨S128x512, .f32⟩
  | .hbm, ⟨9, _⟩ => ⟨S1x128, .f32⟩
  | .hbm, ⟨10, _⟩ => ⟨S1x64, .f32⟩
  | .hbm, ⟨11, _⟩ => ⟨S_, .f32⟩
  | .hbm, ⟨12, _⟩ => ⟨S1, .f32⟩
  | .hbm, ⟨13, _⟩ => ⟨S16384x64, .f32⟩
  | .local _ .vmem, ⟨0, _⟩ => ⟨S512x5120, .f32⟩
  | .local _ .vmem, ⟨1, _⟩ => ⟨S512x5120, .f32⟩
  | .local _ .vmem, ⟨2, _⟩ => ⟨S5120x512, .f32⟩
  | .local _ .vmem, ⟨3, _⟩ => ⟨S512x512, .f32⟩
  | .local _ .vmem, ⟨4, _⟩ => ⟨S512x128, .f32⟩
  | .local _ .vmem, ⟨5, _⟩ => ⟨S128x512, .f32⟩
  | .local _ .vmem, ⟨6, _⟩ => ⟨S1x128, .f32⟩
  | .local _ .vmem, ⟨7, _⟩ => ⟨S128x64, .f32⟩
  | .local _ .vmem, ⟨8, _⟩ => ⟨S1x64, .f32⟩
  | .local _ .vmem, ⟨9, _⟩ => ⟨S512x64, .f32⟩
  | .local _ .vmem, ⟨10, _⟩ => ⟨S512x64, .f32⟩
  | .local _ .vmem, ⟨11, _⟩ => ⟨S512x1, .f32⟩
  | .local _ .smem, ⟨0, _⟩ => ⟨S1, .f32⟩
  | _, _ => ⟨S16384x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg9_0 : Ref sig .tc := ⟨.vmem, 9, rfl⟩
abbrev cc0_stg9_1 : Ref sig .tc := ⟨.vmem, 10, rfl⟩
abbrev cc0_scratch0 : Ref sig .tc := ⟨.vmem, 11, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [BitOps F]

abbrev grid0 : Pipeline.Grid := ⟨1, ![32], ![false]⟩

@[reducible] def k0_t1_loop : Scf.Loop 32 :=
  let c0_i32 : BitVec 32 := 0#32
  let c64_i32 : BitVec 32 := 64#32
  let v1 : BitVec 32 := Scalar.addi c0_i32 c64_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  v72
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v114 : Index := Scalar.indexCast v73
  let c0_81 : Index := 0#32
  ![v114.toNat, 0]
def k0_off2 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v205 : Index := Scalar.indexCast v73
  let c128 : Index := 128#32
  ![v205.toNat, 128]
def k0_off3 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v296 : Index := Scalar.indexCast v73
  let c256 : Index := 256#32
  ![v296.toNat, 256]
def k0_off4 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v387 : Index := Scalar.indexCast v73
  let c384 : Index := 384#32
  ![v387.toNat, 384]
def k0_off5 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v478 : Index := Scalar.indexCast v73
  let c512 : Index := 512#32
  ![v478.toNat, 512]
def k0_off6 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v569 : Index := Scalar.indexCast v73
  let c640 : Index := 640#32
  ![v569.toNat, 640]
def k0_off7 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v660 : Index := Scalar.indexCast v73
  let c768 : Index := 768#32
  ![v660.toNat, 768]
def k0_off8 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v751 : Index := Scalar.indexCast v73
  let c896 : Index := 896#32
  ![v751.toNat, 896]
def k0_off9 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v842 : Index := Scalar.indexCast v73
  let c1024 : Index := 1024#32
  ![v842.toNat, 1024]
def k0_off10 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v933 : Index := Scalar.indexCast v73
  let c1152 : Index := 1152#32
  ![v933.toNat, 1152]
def k0_off11 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v1024 : Index := Scalar.indexCast v73
  let c1280 : Index := 1280#32
  ![v1024.toNat, 1280]
def k0_off12 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v1115 : Index := Scalar.indexCast v73
  let c1408 : Index := 1408#32
  ![v1115.toNat, 1408]
def k0_off13 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v1206 : Index := Scalar.indexCast v73
  let c1536 : Index := 1536#32
  ![v1206.toNat, 1536]
def k0_off14 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v1297 : Index := Scalar.indexCast v73
  let c1664 : Index := 1664#32
  ![v1297.toNat, 1664]
def k0_off15 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v1388 : Index := Scalar.indexCast v73
  let c1792 : Index := 1792#32
  ![v1388.toNat, 1792]
def k0_off16 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v1596 : Index := Scalar.indexCast v73
  let c1920 : Index := 1920#32
  ![v1596.toNat, 1920]
def k0_off17 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v1687 : Index := Scalar.indexCast v73
  let c2048 : Index := 2048#32
  ![v1687.toNat, 2048]
def k0_off18 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v1778 : Index := Scalar.indexCast v73
  let c2176 : Index := 2176#32
  ![v1778.toNat, 2176]
def k0_off19 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v1869 : Index := Scalar.indexCast v73
  let c2304 : Index := 2304#32
  ![v1869.toNat, 2304]
def k0_off20 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v1960 : Index := Scalar.indexCast v73
  let c2432 : Index := 2432#32
  ![v1960.toNat, 2432]
def k0_off21 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v2051 : Index := Scalar.indexCast v73
  let c2560 : Index := 2560#32
  ![v2051.toNat, 2560]
def k0_off22 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v2142 : Index := Scalar.indexCast v73
  let c2688 : Index := 2688#32
  ![v2142.toNat, 2688]
def k0_off23 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v2233 : Index := Scalar.indexCast v73
  let c2816 : Index := 2816#32
  ![v2233.toNat, 2816]
def k0_off24 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v2324 : Index := Scalar.indexCast v73
  let c2944 : Index := 2944#32
  ![v2324.toNat, 2944]
def k0_off25 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v2415 : Index := Scalar.indexCast v73
  let c3072 : Index := 3072#32
  ![v2415.toNat, 3072]
def k0_off26 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v2506 : Index := Scalar.indexCast v73
  let c3200 : Index := 3200#32
  ![v2506.toNat, 3200]
def k0_off27 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v2597 : Index := Scalar.indexCast v73
  let c3328 : Index := 3328#32
  ![v2597.toNat, 3328]
def k0_off28 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v2688 : Index := Scalar.indexCast v73
  let c3456 : Index := 3456#32
  ![v2688.toNat, 3456]
def k0_off29 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v2779 : Index := Scalar.indexCast v73
  let c3584 : Index := 3584#32
  ![v2779.toNat, 3584]
def k0_off30 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v2870 : Index := Scalar.indexCast v73
  let c3712 : Index := 3712#32
  ![v2870.toNat, 3712]
def k0_off31 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v3078 : Index := Scalar.indexCast v73
  let c3840 : Index := 3840#32
  ![v3078.toNat, 3840]
def k0_off32 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v3169 : Index := Scalar.indexCast v73
  let c3968 : Index := 3968#32
  ![v3169.toNat, 3968]
def k0_off33 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v3260 : Index := Scalar.indexCast v73
  let c4096 : Index := 4096#32
  ![v3260.toNat, 4096]
def k0_off34 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v3351 : Index := Scalar.indexCast v73
  let c4224 : Index := 4224#32
  ![v3351.toNat, 4224]
def k0_off35 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v3442 : Index := Scalar.indexCast v73
  let c4352 : Index := 4352#32
  ![v3442.toNat, 4352]
def k0_off36 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v3533 : Index := Scalar.indexCast v73
  let c4480 : Index := 4480#32
  ![v3533.toNat, 4480]
def k0_off37 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v3624 : Index := Scalar.indexCast v73
  let c4608 : Index := 4608#32
  ![v3624.toNat, 4608]
def k0_off38 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v3715 : Index := Scalar.indexCast v73
  let c4736 : Index := 4736#32
  ![v3715.toNat, 4736]
def k0_off39 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v3806 : Index := Scalar.indexCast v73
  let c4864 : Index := 4864#32
  ![v3806.toNat, 4864]
def k0_off40 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v3897 : Index := Scalar.indexCast v73
  let c4992 : Index := 4992#32
  ![v3897.toNat, 4992]
def k0_off41 (k0_t1 : Fin k0_t1_loop.trips) : Fin 2 → Nat :=
  let c0_i32 : BitVec 32 := 0#32
  let c1_i32 : BitVec 32 := 1#32
  let arg12 : BitVec 32 := Scf.iv c0_i32 c1_i32 k0_t1
  let c8_i32 : BitVec 32 := 8#32
  let v72 : BitVec 32 := Scalar.muli arg12 c8_i32
  let v73 : BitVec 32 := v72
  let v5298 : Index := Scalar.indexCast v73
  let c0_1904 : Index := 0#32
  ![v5298.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5120x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F]
-- ==== ReferenceIdeal.lean ====
abbrev S16384x5120 : Shape := ⟨2, ![16384, 5120]⟩
abbrev S512x5120 : Shape := ⟨2, ![512, 5120]⟩
abbrev S512x512 : Shape := ⟨2, ![512, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S_ : Shape := ⟨0, ![]⟩
abbrev S16384 : Shape := ⟨1, ![16384]⟩
abbrev S16384x1 : Shape := ⟨2, ![16384, 1]⟩
abbrev S83886080 : Shape := ⟨1, ![83886080]⟩
abbrev S1638400 : Shape := ⟨1, ![1638400]⟩
abbrev S83886080x1 : Shape := ⟨2, ![83886080, 1]⟩
abbrev S16384x100 : Shape := ⟨2, ![16384, 100]⟩
abbrev S5120x512 : Shape := ⟨2, ![5120, 512]⟩
abbrev S16384x512 : Shape := ⟨2, ![16384, 512]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩

abbrev nBuf : Space → Nat
  | .hbm => 133
  | .vmem => 0
  | .smem => 0
  | _ => 0

abbrev hbmTy0_0 (i : Nat) : BufTy := match i % 128 with
  | 0 => ⟨S16384x5120, .f32⟩
  | 1 => ⟨S512x5120, .f32⟩
  | 2 => ⟨S512x512, .f32⟩
  | 3 => ⟨S512x128, .f32⟩
  | 4 => ⟨S128, .f32⟩
  | 5 => ⟨S128x64, .f32⟩
  | 6 => ⟨S64, .f32⟩
  | 7 => ⟨S_, .f32⟩
  | 8 => ⟨S_, .f32⟩
  | 9 => ⟨S_, .f32⟩
  | 10 => ⟨S_, .f32⟩
  | 11 => ⟨S16384x5120, .f32⟩
  | 12 => ⟨S16384x5120, .f32⟩
  | 13 => ⟨S16384x5120, .f32⟩
  | 14 => ⟨S16384x5120, .f32⟩
  | 15 => ⟨S16384x5120, .f32⟩
  | 16 => ⟨S16384x5120, .i32⟩
  | 17 => ⟨S_, .i32⟩
  | 18 => ⟨S_, .i32⟩
  | 19 => ⟨S_, .i32⟩
  | 20 => ⟨S16384x5120, .i32⟩
  | 21 => ⟨S16384x5120, .i32⟩
  | 22 => ⟨S_, .i32⟩
  | 23 => ⟨S16384x5120, .i32⟩
  | 24 => ⟨S16384x5120, .i32⟩
  | 25 => ⟨S_, .f32⟩
  | 26 => ⟨S16384x5120, .f32⟩
  | 27 => ⟨S16384x5120, .i1⟩
  | 28 => ⟨S_, .f32⟩
  | 29 => ⟨S16384x5120, .f32⟩
  | 30 => ⟨S16384x5120, .i1⟩
  | 31 => ⟨S16384x5120, .i1⟩
  | 32 => ⟨S16384x5120, .f32⟩
  | 33 => ⟨S16384, .i32⟩
  | 34 => ⟨S16384x1, .i32⟩
  | 35 => ⟨S_, .i32⟩
  | 36 => ⟨S16384x1, .i32⟩
  | 37 => ⟨S16384x1, .i32⟩
  | 38 => ⟨S16384x5120, .i32⟩
  | 39 => ⟨S16384x5120, .i32⟩
  | 40 => ⟨S83886080, .i32⟩
  | 41 => ⟨S83886080, .f32⟩
  | 42 => ⟨S_, .f32⟩
  | 43 => ⟨S1638400, .f32⟩
  | 44 => ⟨S83886080x1, .i32⟩
  | 45 => ⟨S1638400, .f32⟩
  | 46 => ⟨S16384x100, .f32⟩
  | 47 => ⟨S_, .f32⟩
  | 48 => ⟨S16384, .f32⟩
  | 49 => ⟨S16384x1, .f32⟩
  | 50 => ⟨S_, .f32⟩
  | 51 => ⟨S16384x1, .f32⟩
  | 52 => ⟨S16384x1, .f32⟩
  | 53 => ⟨S16384x100, .f32⟩
  | 54 => ⟨S16384x100, .f32⟩
  | 55 => ⟨S_, .f32⟩
  | 56 => ⟨S16384x100, .f32⟩
  | 57 => ⟨S16384x100, .f32⟩
  | 58 => ⟨S16384x100, .f32⟩
  | 59 => ⟨S16384x100, .f32⟩
  | 60 => ⟨S_, .f32⟩
  | 61 => ⟨S16384, .f32⟩
  | 62 => ⟨S16384, .f32⟩
  | 63 => ⟨S_, .f32⟩
  | 64 => ⟨S16384, .f32⟩
  | 65 => ⟨S16384, .i1⟩
  | 66 => ⟨S5120x512, .f32⟩
  | 67 => ⟨S16384x512, .f32⟩
  | 68 => ⟨S16384x1, .i1⟩
  | 69 => ⟨S_, .f32⟩
  | 70 => ⟨S16384x512, .i1⟩
  | 71 => ⟨S16384x512, .f32⟩
  | 72 => ⟨S16384x512, .f32⟩
  | 73 => ⟨S16384x512, .f32⟩
  | 74 => ⟨S16384x128, .f32⟩
  | 75 => ⟨S1x128, .f32⟩
  | 76 => ⟨S16384x128, .f32⟩
  | 77 => ⟨S16384x128, .f32⟩
  | 78 => ⟨S_, .f32⟩
  | 79 => ⟨S16384x128, .f32⟩
  | 80 => ⟨S16384x128, .f32⟩
  | 81 => ⟨S_, .f32⟩
  | 82 => ⟨S16384x128, .f32⟩
  | 83 => ⟨S16384x128, .i1⟩
  | 84 => ⟨S_, .f32⟩
  | 85 => ⟨S16384x128, .f32⟩
  | 86 => ⟨S16384x64, .f32⟩
  | 87 => ⟨S1x64, .f32⟩
  | 88 => ⟨S16384x64, .f32⟩
  | 89 => ⟨S16384x64, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S16384x64, .f32⟩
  | 98 => ⟨S16384x128, .f32⟩
  | 99 => ⟨S_, .f32⟩
  | 100 => ⟨S16384x128, .f32⟩
  | 101 => ⟨S16384x128, .f32⟩
  | 102 => ⟨S16384x512, .f32⟩
  | 103 => ⟨S16384x512, .f32⟩
  | 104 => ⟨S_, .f32⟩
  | 105 => ⟨S16384x512, .f32⟩
  | 106 => ⟨S16384x512, .f32⟩
  | 107 => ⟨S16384x512, .f32⟩
  | 108 => ⟨S16384x128, .f32⟩
  | 109 => ⟨S1x128, .f32⟩
  | 110 => ⟨S16384x128, .f32⟩
  | 111 => ⟨S16384x128, .f32⟩
  | 112 => ⟨S_, .f32⟩
  | 113 => ⟨S16384x128, .f32⟩
  | 114 => ⟨S16384x128, .f32⟩
  | 115 => ⟨S16384x64, .f32⟩
  | 116 => ⟨S1x64, .f32⟩
  | 117 => ⟨S16384x64, .f32⟩
  | 118 => ⟨S16384x64, .f32⟩
  | 119 => ⟨S_, .f32⟩
  | 120 => ⟨S16384, .f32⟩
  | 121 => ⟨S_, .f32⟩
  | 122 => ⟨S16384, .f32⟩
  | 123 => ⟨S16384, .f32⟩
  | 124 => ⟨S16384x1, .f32⟩
  | 125 => ⟨S16384x64, .f32⟩
  | 126 => ⟨S16384x64, .f32⟩
  | 127 => ⟨S16384x64, .f32⟩
  | _ => ⟨S16384x5120, .f32⟩

abbrev hbmTy0_1 (i : Nat) : BufTy := match i % 128 with
  | 0 => ⟨S_, .f32⟩
  | 1 => ⟨S16384, .f32⟩
  | 2 => ⟨S16384x1, .f32⟩
  | 3 => ⟨S16384x64, .f32⟩
  | 4 => ⟨S16384x64, .f32⟩
  | _ => ⟨S16384x5120, .f32⟩

abbrev hbmTy (i : Nat) : BufTy := match i / 128 with
  | 0 => hbmTy0_0 i
  | 1 => hbmTy0_1 i
  | _ => ⟨S16384x5120, .f32⟩

abbrev bufTy : (tb : Table) → Fin (tcTables nBuf tb) → BufTy
  | .hbm, ⟨i, _⟩ => hbmTy i
  | _, _ => ⟨S16384x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_c_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v7 : Ref sig .tc := ⟨.hbm, 24, rfl⟩
abbrev main_cst_3 : Ref sig .tc := ⟨.hbm, 25, rfl⟩
abbrev main_v8 : Ref sig .tc := ⟨.hbm, 26, rfl⟩
abbrev main_v9 : Ref sig .tc := ⟨.hbm, 27, rfl⟩
abbrev main_cst_4 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_c_5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩
abbrev main_cst_8 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_9 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_10 : Ref sig .tc := ⟨.hbm, 60, rfl⟩
abbrev main_v36 : Ref sig .tc := ⟨.hbm, 61, rfl⟩
abbrev main_v37 : Ref sig .tc := ⟨.hbm, 62, rfl⟩
abbrev main_cst_11 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_12 : Ref sig .tc := ⟨.hbm, 69, rfl⟩
abbrev main_call1_v0 : Ref sig .tc := ⟨.hbm, 70, rfl⟩
abbrev main_call1_v1 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call2_cst : Ref sig .tc := ⟨.hbm, 78, rfl⟩
abbrev main_call2_v0 : Ref sig .tc := ⟨.hbm, 79, rfl⟩
abbrev main_v49 : Ref sig .tc := ⟨.hbm, 80, rfl⟩
abbrev main_cst_13 : Ref sig .tc := ⟨.hbm, 81, rfl⟩
abbrev main_v50 : Ref sig .tc := ⟨.hbm, 82, rfl⟩
abbrev main_v51 : Ref sig .tc := ⟨.hbm, 83, rfl⟩
abbrev main_cst_14 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_15 : Ref sig .tc := ⟨.hbm, 90, rfl⟩
abbrev main_v57 : Ref sig .tc := ⟨.hbm, 91, rfl⟩
abbrev main_cst_16 : Ref sig .tc := ⟨.hbm, 92, rfl⟩
abbrev main_v58 : Ref sig .tc := ⟨.hbm, 93, rfl⟩
abbrev main_cst_17 : Ref sig .tc := ⟨.hbm, 94, rfl⟩
abbrev main_cst_18 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_19 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_cst_20 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_call3_cst : Ref sig .tc := ⟨.hbm, 112, rfl⟩
abbrev main_call3_v0 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_21 : Ref sig .tc := ⟨.hbm, 119, rfl⟩
abbrev main_v78 : Ref sig .tc := ⟨.hbm, 120, rfl⟩
abbrev main_cst_22 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_23 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩

abbrev nD : Nat := 1
abbrev τ : Topo := Topo.v7x

variable {F : FTy → Type} [FloatOps F]
-- ==== KernelExpm.lean ====
abbrev S512x512 : Shape := ⟨2, ![512, 512]⟩
abbrev S1x1 : Shape := ⟨2, ![1, 1]⟩
abbrev S512 : Shape := ⟨1, ![512]⟩
abbrev S512x1 : Shape := ⟨2, ![512, 1]⟩
abbrev S1 : Shape := ⟨1, ![1]⟩

abbrev nBuf : Space → Nat
  | .hbm => 2
  | .vmem => 2
  | .smem => 0
  | _ => 0

abbrev bufTy : (tb : Table) → Fin (tcTables nBuf tb) → BufTy
  | .hbm, ⟨0, _⟩ => ⟨S512x512, .f32⟩
  | .hbm, ⟨1, _⟩ => ⟨S1x1, .f32⟩
  | .local _ .vmem, ⟨0, _⟩ => ⟨S512x512, .f32⟩
  | .local _ .vmem, ⟨1, _⟩ => ⟨S1x1, .f32⟩
  | _, _ => ⟨S512x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceExpmIdeal.lean ====
abbrev S512x512 : Shape := ⟨2, ![512, 512]⟩
abbrev S_ : Shape := ⟨0, ![]⟩
abbrev S1x1 : Shape := ⟨2, ![1, 1]⟩

abbrev nBuf : Space → Nat
  | .hbm => 61
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S_, .f32⟩
  | .hbm, ⟨3, _⟩ => ⟨S512x512, .f32⟩
  | .hbm, ⟨4, _⟩ => ⟨S512x512, .f32⟩
  | .hbm, ⟨5, _⟩ => ⟨S512x512, .i32⟩
  | .hbm, ⟨6, _⟩ => ⟨S512x512, .i32⟩
  | .hbm, ⟨7, _⟩ => ⟨S_, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S512x512, .f32⟩
  | .hbm, ⟨12, _⟩ => ⟨S512x512, .f32⟩
  | .hbm, ⟨13, _⟩ => ⟨S_, .f32⟩
  | .hbm, ⟨14, _⟩ => ⟨S512x512, .f32⟩
  | .hbm, ⟨15, _⟩ => ⟨S512x512, .f32⟩
  | .hbm, ⟨16, _⟩ => ⟨S512x512, .f32⟩
  | .hbm, ⟨17, _⟩ => ⟨S512x512, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S512x512, .f32⟩
  | .hbm, ⟨23, _⟩ => ⟨S_, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S_, .f32⟩
  | .hbm, ⟨29, _⟩ => ⟨S512x512, .f32⟩
  | .hbm, ⟨30, _⟩ => ⟨S512x512, .f32⟩
  | .hbm, ⟨31, _⟩ => ⟨S512x512, .f32⟩
  | .hbm, ⟨32, _⟩ => ⟨S512x512, .f32⟩
  | .hbm, ⟨33, _⟩ => ⟨S_, .f32⟩
  | .hbm, ⟨34, _⟩ => ⟨S512x512, .f32⟩
  | .hbm, ⟨35, _⟩ => ⟨S512x512, .f32⟩
  | .hbm, ⟨36, _⟩ => ⟨S512x512, .f32⟩
  | .hbm, ⟨37, _⟩ => ⟨S512x512, .f32⟩
  | .hbm, ⟨38, _⟩ => ⟨S_, .f32⟩
  | .hbm, ⟨39, _⟩ => ⟨S512x512, .f32⟩
  | .hbm, ⟨40, _⟩ => ⟨S512x512, .f32⟩
  | .hbm, ⟨41, _⟩ => ⟨S512x512, .f32⟩
  | .hbm, ⟨42, _⟩ => ⟨S512x512, .f32⟩
  | .hbm, ⟨43, _⟩ => ⟨S512x512, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S512x512, .i32⟩
  | .hbm, ⟨48, _⟩ => ⟨S512x512, .i32⟩
  | .hbm, ⟨49, _⟩ => ⟨S_, .i32⟩
  | .hbm, ⟨50, _⟩ => ⟨S512x512, .i32⟩
  | .hbm, ⟨51, _⟩ => ⟨S512x512, .i32⟩
  | .hbm, ⟨52, _⟩ => ⟨S512x512, .i1⟩
  | .hbm, ⟨53, _⟩ => ⟨S_, .f32⟩
  | .hbm, ⟨54, _⟩ => ⟨S512x512, .f32⟩
  | .hbm, ⟨55, _⟩ => ⟨S512x512, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1x1, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_call0_v0 : Ref sig .tc := ⟨.hbm, 47, rfl⟩
abbrev main_call0_v1 : Ref sig .tc := ⟨.hbm, 48, rfl⟩
abbrev main_call0_c : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_cst : Ref sig .tc := ⟨.hbm, 53, rfl⟩
abbrev main_call0_v5 : Ref sig .tc := ⟨.hbm, 54, rfl⟩
abbrev main_call0_v6 : Ref sig .tc := ⟨.hbm, 55, rfl⟩
abbrev main_call0_cst_0 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Proof.TripForm.lean ====
/- What one trip of the kernel's loop over row groups stores, as a short program over its 40 lane
   chunks: the histogram's packed nibbles added up in three runs, the runs' words split into bytes,
   the bytes summed along the lanes, and the entropy's 104 terms added in the kernel's order. The
   generated name of the stored value is equal to it by unfolding. -/
module

public import proofs.«01_k».proof.Proof.Gen.KernelIdeal.Frame

@[expose] public section

set_option synthInstance.maxSize 4096

noncomputable section

namespace Cert.KernelIdeal.Entropy

open Idealize.ShloMosaic Idealize.SL.Sem Cert.KernelIdeal.Gen

variable {F : FTy → Type} [FloatOps F]

/-- Which lanes of a chunk lie in `[-5, 5]`. -/
def inRange (x : FVec F S8x128 .f32) : IVec S8x128 1 :=
  cmpf .ole (absf x) (broadcast S8x128 (Scalar.ofBits .f32 0x40A00000#32))

/-- The bin of each lane of a chunk, 1000 where the lane is out of range. -/
def bins (x : FVec F S8x128 .f32) : IVec S8x128 32 :=
  select (inRange x)
    (minsi
      (fptosi 32 (mulf (subf x (broadcast S8x128 (Scalar.ofBits .f32 0xC0A00000#32)))
        (broadcast S8x128 (Scalar.ofBits .f32 0x41200000#32))))
      (broadcast S8x128 99#32))
    (broadcast S8x128 1000#32)

/-- Each lane's one in the nibble its bin has in its word of eight bins. -/
def nibbleOne (x : FVec F S8x128 .f32) : IVec S8x128 32 :=
  shli (broadcast S8x128 1#32)
    (shli (andi (bins x) (broadcast S8x128 7#32)) (broadcast S8x128 2#32))

/-- A chunk's addition to the words of bins `8 j` to `8 j + 7`. -/
def wordAdd (j : BitVec 32) (x : FVec F S8x128 .f32) : IVec S8x128 32 :=
  select (cmpi .eq (shrui (bins x) (broadcast S8x128 3#32)) (broadcast S8x128 j)) (nibbleOne x)
    (broadcast S8x128 0#32)

/-- A chunk's addition to the count of lanes in range. -/
def validAdd (x : FVec F S8x128 .f32) : IVec S8x128 32 :=
  select (inRange x) (broadcast S8x128 1#32) (broadcast S8x128 0#32)

/-- The words of bins `8 j` to `8 j + 7` over a run of chunks. -/
def words (j : BitVec 32) (xs : List (FVec F S8x128 .f32)) : IVec S8x128 32 :=
  xs.foldl (fun a x => addi a (wordAdd j x)) (broadcast S8x128 0#32)

/-- The bytes of the even bins, over the three runs. -/
def evens (j : BitVec 32) (gs : List (List (FVec F S8x128 .f32))) : IVec S8x128 32 :=
  gs.foldl (fun a xs => addi a (andi (words j xs) (broadcast S8x128 252645135#32)))
    (broadcast S8x128 0#32)

/-- The bytes of the odd bins, over the three runs. -/
def odds (j : BitVec 32) (gs : List (List (FVec F S8x128 .f32))) : IVec S8x128 32 :=
  gs.foldl (fun a xs => addi a (andi (shrui (words j xs) (broadcast S8x128 4#32))
      (broadcast S8x128 252645135#32)))
    (broadcast S8x128 0#32)

/-- The count of lanes in range, per lane position. -/
def valids (gs : List (List (FVec F S8x128 .f32))) : IVec S8x128 32 :=
  gs.foldl (fun a xs => xs.foldl (fun a x => addi a (validAdd x)) a) (broadcast S8x128 0#32)

/-- A word vector's sum along the lanes. -/
def laneSum (w : IVec S8x128 32) : IVec S8x1 32 :=
  shapeCast S8x1 (multiReductionI .add [1] S8 w 0#32 reduces_S8x128_S8 rfl) shapeCasts_S8_S8x1

/-- The reciprocal of the guarded count of a row. -/
def recip (gs : List (List (FVec F S8x128 .f32))) : FVec F S8x1 .f32 :=
  divf (broadcast S8x1 (Scalar.ofBits .f32 0x3F800000#32))
    (addf (sitofp .f32 (laneSum (valids gs))) (broadcast S8x1 (Scalar.ofBits .f32 0x3089705F#32)))

/-- Bytes 0 and 2 of a word, summed along the lanes. -/
def loSum (w : IVec S8x128 32) : IVec S8x1 32 :=
  laneSum (andi w (broadcast S8x128 16711935#32))

/-- Bytes 1 and 3 of a word, summed along the lanes. -/
def hiSum (w : IVec S8x128 32) : IVec S8x1 32 :=
  laneSum (andi (shrui w (broadcast S8x128 8#32)) (broadcast S8x128 16711935#32))

/-- The four bins' counts a word of bytes holds. -/
def quarters (w : IVec S8x128 32) : List (IVec S8x1 32) :=
  [andi (loSum w) (broadcast S8x1 65535#32), andi (hiSum w) (broadcast S8x1 65535#32),
   shrui (loSum w) (broadcast S8x1 16#32), shrui (hiSum w) (broadcast S8x1 16#32)]

/-- One bin's term of the entropy added to the sum so far. -/
def term (r acc : FVec F S8x1 .f32) (h : IVec S8x1 32) : FVec F S8x1 .f32 :=
  addf acc (mulf (mulf (sitofp .f32 h) r)
    (log (addf (mulf (sitofp .f32 h) r) (broadcast S8x1 (Scalar.ofBits .f32 0x3089705F#32)))))

/-- The numbers of the 13 words. -/
def wordNos : List (BitVec 32) :=
  [0#32, 1#32, 2#32, 3#32, 4#32, 5#32, 6#32, 7#32, 8#32, 9#32, 10#32, 11#32, 12#32]

/-- The 104 counts in the kernel's order. -/
def counts (gs : List (List (FVec F S8x128 .f32))) : List (IVec S8x1 32) :=
  wordNos.flatMap fun j => quarters (evens j gs) ++ quarters (odds j gs)

/-- The entropy column a trip stores. -/
def tripPay (gs : List (List (FVec F S8x128 .f32))) : FVec F S8x1 .f32 :=
  shapeCast S8x1
    (subf (broadcast S8x1 (Scalar.ofBits .f32 0x00000000#32))
      ((counts gs).foldl (term (recip gs)) (broadcast S8x1 (Scalar.ofBits .f32 0x00000000#32))))
    shapeCasts_S8x1_S8x1

/-- The chunk of the block at an offset. -/
def chunkAt (arg1 : Memref sig .tc .vmem S512x5120 .f32) (X : BufTy.Contents (Elt F) arg1.view.ty) (off : Fin 2 → ℕ)
    (h : ∀ a, off a + S8x128.size a ≤ S512x5120.size a) : FVec F S8x128 .f32 :=
  View.readAt (Elt F) arg1.view (Rect.unit (s := S512x5120) off S8x128.size h).toLoadRect X

/-- The trip's 40 chunks in their three runs. -/
def runs (arg1 : Memref sig .tc .vmem S512x5120 .f32) (X : BufTy.Contents (Elt F) arg1.view.ty)
    (k : Fin k0_t1_loop.trips) : List (List (FVec F S8x128 .f32)) :=
  [[chunkAt arg1 X _ (k0_off1_inb k), chunkAt arg1 X _ (k0_off2_inb k),
    chunkAt arg1 X _ (k0_off3_inb k), chunkAt arg1 X _ (k0_off4_inb k),
    chunkAt arg1 X _ (k0_off5_inb k), chunkAt arg1 X _ (k0_off6_inb k),
    chunkAt arg1 X _ (k0_off7_inb k), chunkAt arg1 X _ (k0_off8_inb k),
    chunkAt arg1 X _ (k0_off9_inb k), chunkAt arg1 X _ (k0_off10_inb k),
    chunkAt arg1 X _ (k0_off11_inb k), chunkAt arg1 X _ (k0_off12_inb k),
    chunkAt arg1 X _ (k0_off13_inb k), chunkAt arg1 X _ (k0_off14_inb k),
    chunkAt arg1 X _ (k0_off15_inb k)],
   [chunkAt arg1 X _ (k0_off16_inb k), chunkAt arg1 X _ (k0_off17_inb k),
    chunkAt arg1 X _ (k0_off18_inb k), chunkAt arg1 X _ (k0_off19_inb k),
    chunkAt arg1 X _ (k0_off20_inb k), chunkAt arg1 X _ (k0_off21_inb k),
    chunkAt arg1 X _ (k0_off22_inb k), chunkAt arg1 X _ (k0_off23_inb k),
    chunkAt arg1 X _ (k0_off24_inb k), chunkAt arg1 X _ (k0_off25_inb k),
    chunkAt arg1 X _ (k0_off26_inb k), chunkAt arg1 X _ (k0_off27_inb k),
    chunkAt arg1 X _ (k0_off28_inb k), chunkAt arg1 X _ (k0_off29_inb k),
    chunkAt arg1 X _ (k0_off30_inb k)],
   [chunkAt arg1 X _ (k0_off31_inb k), chunkAt arg1 X _ (k0_off32_inb k),
    chunkAt arg1 X _ (k0_off33_inb k), chunkAt arg1 X _ (k0_off34_inb k),
    chunkAt arg1 X _ (k0_off35_inb k), chunkAt arg1 X _ (k0_off36_inb k),
    chunkAt arg1 X _ (k0_off37_inb k), chunkAt arg1 X _ (k0_off38_inb k),
    chunkAt arg1 X _ (k0_off39_inb k), chunkAt arg1 X _ (k0_off40_inb k)]]

set_option maxHeartbeats 0 in
/-- The value a trip stores is the entropy column of its chunks. -/
theorem pay_eq (arg1 : Memref sig .tc .vmem S512x5120 .f32) (X : BufTy.Contents (Elt F) arg1.view.ty)
    (k : Fin k0_t1_loop.trips) :
    k0_pay1064 (trip_k0_t1.sl.r_438 arg1 X k) = tripPay (F := F) (runs arg1 X k) := rfl

end Cert.KernelIdeal.Entropy
-- ==== Proof.Packed.lean ====
/- The packed histogram on words: eight bins to a word in nibbles, four bins to a word in bytes, two
   bins to a word in halves. Every count stays inside its field, so a field read out at the end is the
   number of elements that fell in its bin. -/
module

public import Idealize.ShloMosaic.Lib.PackedFields
public import Idealize.ShloMosaic.Lib.WordSum

@[expose] public section

namespace Cert.Packed

open Idealize.ShloMosaic Idealize.ShloMosaic.PackedFields

variable {u : ArithUnit}

/-- The word added for bin `b` to word number `j`: a one in nibble `b % 8` if `b / 8` is `j`. -/
def nibble (u : ArithUnit) (j b : BitVec 32) : BitVec 32 :=
  Scalar.select (IntOp.cmpi .eq (IntOp.shrui u b 3#32) j)
    (IntOp.shli u 1#32 (IntOp.shli u (IntOp.andi b 7#32) 2#32)) 0#32

/-- Its nibble `i` is one exactly when the bin is `8 j + i`. -/
theorem field_nibble (j b : BitVec 32) (i : ℕ) (hi : i < 8) :
    field 4 i (nibble u j b).toNat = if b.toNat = 8 * j.toNat + i then 1 else 0 := by
  have hq : (IntOp.shrui u b 3#32).toNat = b.toNat / 8 := by
    unfold IntOp.shrui
    rw [if_pos (by decide), BitVec.ushiftRight_eq', BitVec.toNat_ushiftRight,
      show (3#32 : BitVec 32).toNat = 3 from rfl, Nat.shiftRight_eq_div_pow]
  have hand : (IntOp.andi b 7#32).toNat = b.toNat % 8 := by
    unfold IntOp.andi
    rw [BitVec.toNat_and, show (7#32 : BitVec 32).toNat = 2 ^ 3 - 1 from rfl,
      Nat.and_two_pow_sub_one_eq_mod]
  have hs1 : (IntOp.shli u (IntOp.andi b 7#32) 2#32).toNat = 4 * (b.toNat % 8) := by
    unfold IntOp.shli
    rw [if_pos (by decide), BitVec.shiftLeft_eq', BitVec.toNat_shiftLeft, hand,
      show (2#32 : BitVec 32).toNat = 2 from rfl, Nat.shiftLeft_eq]
    omega
  have hs2 : (IntOp.shli u 1#32 (IntOp.shli u (IntOp.andi b 7#32) 2#32)).toNat
      = 1 <<< (4 * (b.toNat % 8)) := by
    have hlt : 4 * (b.toNat % 8) < 32 := by omega
    unfold IntOp.shli at hs1 ⊢
    rw [if_pos (by rw [hs1]; exact hlt), BitVec.shiftLeft_eq', BitVec.toNat_shiftLeft, hs1,
      show (1#32 : BitVec 32).toNat = 1 from rfl]
    apply Nat.mod_eq_of_lt
    rw [Nat.one_shiftLeft]
    exact Nat.pow_lt_pow_right (by decide) hlt
  have hT : (nibble u j b).toNat
      = if b.toNat / 8 = j.toNat then 1 <<< (4 * (b.toNat % 8)) else 0 := by
    unfold nibble Scalar.select IntOp.cmpi
    by_cases h : IntOp.shrui u b 3#32 = j
    · have h' : b.toNat / 8 = j.toNat := by rw [← hq, h]
      simp only [h, beq_self_eq_true, BitVec.ofBool_true, if_true, if_pos h']
      exact hs2
    · have h' : ¬ b.toNat / 8 = j.toNat := fun e => h (BitVec.eq_of_toNat_eq (hq.trans e))
      have hb : (IntOp.shrui u b 3#32 == j) = false := by simpa using h
      simp only [hb, BitVec.ofBool_false]
      rw [if_neg (by decide), if_neg h']
      rfl
  rw [hT]
  exact field_oneHot_nat 4 8 j.toNat b.toNat i (by decide) (by decide) hi

/-- Words added up field by field, when every field of every summand is at most `M` and the whole sum
    of a field stays inside it. -/
theorem field_foldl {α : Type*} {w n : ℕ} (hn : w * n = 32) (f : α → BitVec 32) (M : ℕ) :
    ∀ (xs : List α) (a : BitVec 32),
      (∀ x ∈ xs, ∀ k < n, field w k (f x).toNat ≤ M) →
      (∀ k < n, field w k a.toNat + M * xs.length < 2 ^ w) → ∀ i < n,
      field w i (xs.foldl (fun a x => IntOp.addi a (f x)) a).toNat
        = field w i a.toNat + (xs.map fun x => field w i (f x).toNat).sum
  | [], a, _, _, i, _ => by simp
  | x :: xs, a, hM, h, i, hi => by
    have hadd : ∀ k < n, field w k (IntOp.addi a (f x)).toNat
        = field w k a.toNat + field w k (f x).toNat := fun k hk =>
      field_addi hn a (f x) (fun k hk => by
        have h1 := h k hk; have h2 := hM x (by simp) k hk
        rw [List.length_cons, Nat.mul_add] at h1; omega) k hk
    rw [List.foldl_cons, field_foldl hn f M xs (IntOp.addi a (f x))
        (fun y hy => hM y (by simp [hy]))
        (fun k hk => by
          have h1 := h k hk; have h2 := hM x (by simp) k hk
          rw [List.length_cons, Nat.mul_add] at h1; rw [hadd k hk]; omega) i hi,
      hadd i hi, List.map_cons, List.sum_cons, Nat.add_assoc]

theorem field_zero (w i : ℕ) : field w i (0#32 : BitVec 32).toNat = 0 := by
  simp [field]

/-- How many of a list of bins are bin `n`. -/
def cnt (bs : List (BitVec 32)) (n : ℕ) : ℕ := (bs.map fun b => if b.toNat = n then 1 else 0).sum

theorem cnt_le (bs : List (BitVec 32)) (n : ℕ) : cnt bs n ≤ bs.length := by
  unfold cnt
  induction bs with
  | nil => simp
  | cons b bs ih => rw [List.map_cons, List.sum_cons, List.length_cons]; split <;> omega

/-- The word of nibbles of a run of bins. -/
def run (u : ArithUnit) (j : BitVec 32) (bs : List (BitVec 32)) : BitVec 32 :=
  bs.foldl (fun a b => IntOp.addi a (nibble u j b)) 0#32

/-- A run of at most 15 bins counts them in its nibbles. -/
theorem field_run (j : BitVec 32) (bs : List (BitVec 32)) (hl : bs.length ≤ 15) (i : ℕ) (hi : i < 8) :
    field 4 i (run u j bs).toNat = cnt bs (8 * j.toNat + i) := by
  unfold run
  rw [field_foldl (n := 8) (by decide) (nibble u j) 1 bs 0#32
    (fun x _ k hk => by rw [field_nibble j x k hk]; split <;> omega)
    (fun k _ => by rw [field_zero]; omega) i hi, field_zero, Nat.zero_add]
  unfold cnt
  simp only [field_nibble _ _ i hi]

/-- The even nibbles of the runs' words, added up as bytes. -/
def evenBytes (u : ArithUnit) (j : BitVec 32) (gs : List (List (BitVec 32))) : BitVec 32 :=
  gs.foldl (fun a bs => IntOp.addi a (IntOp.andi (run u j bs) 252645135#32)) 0#32

/-- The odd nibbles of the runs' words, added up as bytes. -/
def oddBytes (u : ArithUnit) (j : BitVec 32) (gs : List (List (BitVec 32))) : BitVec 32 :=
  gs.foldl (fun a bs => IntOp.addi a (IntOp.andi (IntOp.shrui u (run u j bs) 4#32) 252645135#32)) 0#32

/-- Either half's bytes count the bins over the runs. -/
theorem field_bytes (gs : List (List (BitVec 32))) (hg : gs.length ≤ 3) (hl : ∀ bs ∈ gs, bs.length ≤ 15)
    (f : List (BitVec 32) → BitVec 32) (b : ℕ → ℕ)
    (hf : ∀ bs ∈ gs, ∀ i < 4, field 8 i (f bs).toNat = cnt bs (b i)) (i : ℕ) (hi : i < 4) :
    field 8 i (gs.foldl (fun a bs => IntOp.addi a (f bs)) 0#32).toNat
      = (gs.map fun bs => cnt bs (b i)).sum := by
  rw [field_foldl (n := 4) (by decide) f 15 gs 0#32
    (fun x hx k hk => by rw [hf x hx k hk]; exact (cnt_le _ _).trans (hl x hx))
    (fun k _ => by rw [field_zero]; omega) i hi, field_zero, Nat.zero_add]
  exact congrArg List.sum (List.map_congr_left fun bs hbs => hf bs hbs i hi)

theorem field_evenBytes (j : BitVec 32) (gs : List (List (BitVec 32))) (hg : gs.length ≤ 3)
    (hl : ∀ bs ∈ gs, bs.length ≤ 15) (i : ℕ) (hi : i < 4) :
    field 8 i (evenBytes u j gs).toNat = (gs.map fun bs => cnt bs (8 * j.toNat + 2 * i)).sum :=
  field_bytes gs hg hl _ (fun i => 8 * j.toNat + 2 * i)
    (fun bs hbs i hi => by
      rw [show (8 : ℕ) = 2 * 4 from rfl, field_andi_even (w := 4) isEvenMask_4 i,
        field_run j bs (hl bs hbs) (2 * i) (by omega)]) i hi

theorem field_oddBytes (j : BitVec 32) (gs : List (List (BitVec 32))) (hg : gs.length ≤ 3)
    (hl : ∀ bs ∈ gs, bs.length ≤ 15) (i : ℕ) (hi : i < 4) :
    field 8 i (oddBytes u j gs).toNat = (gs.map fun bs => cnt bs (8 * j.toNat + (2 * i + 1))).sum :=
  field_bytes gs hg hl _ (fun i => 8 * j.toNat + (2 * i + 1))
    (fun bs hbs i hi => by
      rw [show (8 : ℕ) = 2 * 4 from rfl, field_shrui_andi_odd (w := 4) isEvenMask_4 (by decide) i,
        field_run j bs (hl bs hbs) (2 * i + 1) (by omega)]) i hi

/-- A word is its two halves. -/
theorem toNat_halves (a : BitVec 32) : a.toNat = field 16 0 a.toNat + 65536 * field 16 1 a.toNat := by
  have := a.isLt
  simp only [field, Nat.shiftRight_eq_div_pow]
  omega

/-- The two halves of a sum over lanes of words whose halves are small are the sums of the halves. -/
theorem halves_sum {ι : Type*} (S : Finset ι) (x : ι → BitVec 32) (N : ℕ) (hN : N = ∑ i ∈ S, (x i).toNat)
    (h : ∀ k < 2, ∑ i ∈ S, field 16 k (x i).toNat < 65536) (k : ℕ) (hk : k < 2) :
    field 16 k N = ∑ i ∈ S, field 16 k (x i).toNat := by
  have e : N = ∑ i ∈ S, field 16 0 (x i).toNat + 65536 * ∑ i ∈ S, field 16 1 (x i).toNat := by
    rw [hN, Finset.mul_sum, ← Finset.sum_add_distrib]
    exact Finset.sum_congr rfl fun i _ => toNat_halves _
  have h0 := h 0 (by omega)
  have h1 := h 1 (by omega)
  simp only [field, Nat.shiftRight_eq_div_pow] at *
  rcases (by omega : k = 0 ∨ k = 1) with rfl | rfl <;> omega

/-- The same sum stays a word. -/
theorem sum_lt {ι : Type*} (S : Finset ι) (x : ι → BitVec 32)
    (h : ∀ k < 2, ∑ i ∈ S, field 16 k (x i).toNat < 65536) : ∑ i ∈ S, (x i).toNat < 2 ^ 32 := by
  have e : ∑ i ∈ S, (x i).toNat
      = ∑ i ∈ S, field 16 0 (x i).toNat + 65536 * ∑ i ∈ S, field 16 1 (x i).toNat := by
    rw [Finset.mul_sum, ← Finset.sum_add_distrib]
    exact Finset.sum_congr rfl fun i _ => toNat_halves _
  have h0 := h 0 (by omega)
  have h1 := h 1 (by omega)
  omega

end Cert.Packed
-- ==== Proof.Elem.lean ====
/- One element of a histogram: the kernel's bin and the reference's bin agree on elements in range, and
   the kernel's bin of an element out of range is none of the 104 counted. -/
module

public import Idealize.ShloMosaic.PureOps.Ideal
public import Idealize.ShloMosaic.PureOps.Ideal.Laws
public import Idealize.ShloMosaic.Lib.IdealHost

@[expose] public section

noncomputable section

namespace Cert.Elem

open Idealize.ShloMosaic

theorem five : Ideal.ofBits .f32 0x40A00000#32 = ((5 : ℝ) : EReal) := by
  simp [Ideal.ofBits, Ideal.ieee, -EReal.coe_mul, -EReal.coe_neg]; norm_num

theorem neg_five : Ideal.ofBits .f32 0xC0A00000#32 = ((-5 : ℝ) : EReal) := by
  simp [Ideal.ofBits, Ideal.ieee, -EReal.coe_mul, -EReal.coe_neg]; norm_num

theorem ten : Ideal.ofBits .f32 0x41200000#32 = ((10 : ℝ) : EReal) := by
  simp [Ideal.ofBits, Ideal.ieee, -EReal.coe_mul, -EReal.coe_neg]; norm_num

theorem hundred : Ideal.ofBits .f32 0x42C80000#32 = ((100 : ℝ) : EReal) := by
  simp [Ideal.ofBits, Ideal.ieee, -EReal.coe_mul, -EReal.coe_neg]; norm_num

theorem one : Ideal.ofBits .f32 0x3F800000#32 = ((1 : ℝ) : EReal) := by
  simp [Ideal.ofBits, Ideal.ieee, -EReal.coe_mul]; norm_num

/-- The kernel's guard against a zero count or probability. -/
def eps : EReal := Ideal.ofBits .f32 0x3089705F#32

theorem eps_pos : ∃ e : ℝ, 0 < e ∧ eps = (e : EReal) := by
  refine ⟨9007199 * 2 ^ (-53 : ℤ), by positivity, ?_⟩
  simp [eps, Ideal.ofBits, Ideal.ieee]

/-- Whether an element is in range, as the kernel tests it. -/
def inR (x : EReal) : BitVec 1 :=
  Ideal.cmp .ole (max x (-x)) (Ideal.ofBits .f32 0x40A00000#32)

/-- An element's bin, as the kernel computes it. -/
def binK (x : EReal) : BitVec 32 :=
  Scalar.select (inR x)
    (IntOp.minsi (Ideal.fptosi 32 ((x - Ideal.ofBits .f32 0xC0A00000#32) * Ideal.ofBits .f32 0x41200000#32)) 99#32)
    1000#32

/-- An element's bin, as the reference computes it. -/
def binR (x : EReal) : BitVec 32 :=
  IntOp.minsi 99#32 (IntOp.maxsi 0#32 (Ideal.fptosi 32 (Ideal.liftRound Int.floor
    (Ideal.div (x - Ideal.ofBits .f32 0xC0A00000#32)
      (Ideal.div (Ideal.ofBits .f32 0x41200000#32) (Ideal.ofBits .f32 0x42C80000#32))))))

/-- Whether an element is in range, as the reference tests it. -/
def inRef (x : EReal) : BitVec 1 :=
  IntOp.andi (Ideal.cmp .oge x (Ideal.ofBits .f32 0xC0A00000#32))
    (Ideal.cmp .ole x (Ideal.ofBits .f32 0x40A00000#32))

theorem inR_iff (x : EReal) : inR x = 1#1 ↔ ∃ r : ℝ, x = (r : EReal) ∧ -5 ≤ r ∧ r ≤ 5 := by
  unfold inR Ideal.cmp
  rw [five]
  have h : BitVec.ofBool (decide (max x (-x) ≤ ((5 : ℝ) : EReal))) = 1#1 ↔ max x (-x) ≤ ((5 : ℝ) : EReal) := by
    by_cases h : max x (-x) ≤ ((5 : ℝ) : EReal) <;> simp [h]
  refine h.trans ?_
  induction x with
  | bot => simp
  | top => simp
  | coe r =>
    rw [← EReal.coe_neg, max_le_iff, EReal.coe_le_coe_iff, EReal.coe_le_coe_iff]
    constructor
    · intro h; exact ⟨r, rfl, by linarith [h.2], h.1⟩
    · rintro ⟨s, hs, h1, h2⟩
      rw [EReal.coe_eq_coe_iff] at hs
      subst hs
      exact ⟨h2, by linarith⟩

theorem inRef_eq (x : EReal) : inRef x = inR x := by
  have h1 : inRef x = 1#1 ↔ inR x = 1#1 := by
    rw [inR_iff]
    unfold inRef Ideal.cmp IntOp.andi
    rw [five, neg_five]
    have h : ∀ a b : Bool, BitVec.ofBool a &&& BitVec.ofBool b = 1#1 ↔ a = true ∧ b = true := by decide
    refine (h _ _).trans ?_
    rw [decide_eq_true_iff, decide_eq_true_iff]
    induction x with
    | bot => simp
    | top => simp
    | coe r =>
      rw [EReal.coe_le_coe_iff, EReal.coe_le_coe_iff]
      constructor
      · intro h; exact ⟨r, rfl, h.1, h.2⟩
      · rintro ⟨s, hs, h1, h2⟩
        rw [EReal.coe_eq_coe_iff] at hs
        subst hs
        exact ⟨h1, h2⟩
  have h2 : ∀ a b : BitVec 1, (a = 1#1 ↔ b = 1#1) → a = b := by decide
  exact h2 _ _ h1

/-- The bin of an element in range. -/
def binOf (r : ℝ) : ℕ := min ⌊(r + 5) * 10⌋.toNat 99

theorem binK_out {x : EReal} (h : inR x ≠ 1#1) : binK x = 1000#32 := by
  unfold binK
  exact if_neg h

theorem floor_bounds {r : ℝ} (h1 : -5 ≤ r) (h2 : r ≤ 5) : 0 ≤ ⌊(r + 5) * 10⌋ ∧ ⌊(r + 5) * 10⌋ ≤ 100 := by
  constructor
  · exact Int.floor_nonneg.2 (by nlinarith)
  · have : ⌊(r + 5) * 10⌋ ≤ ⌊((100 : ℤ) : ℝ)⌋ := Int.floor_le_floor (by push_cast; nlinarith)
    rwa [Int.floor_intCast] at this

theorem minsi_small (z : ℤ) (h0 : 0 ≤ z) (h1 : z ≤ 100) :
    (IntOp.minsi (BitVec.ofInt 32 z) 99#32).toNat = min z.toNat 99
      ∧ IntOp.minsi 99#32 (IntOp.maxsi 0#32 (BitVec.ofInt 32 z)) = IntOp.minsi (BitVec.ofInt 32 z) 99#32 := by
  obtain ⟨n, rfl⟩ := Int.eq_ofNat_of_zero_le h0
  have hn : n < 101 := by omega
  clear h0 h1
  revert n
  decide

theorem bins_in {x : EReal} {r : ℝ} (hx : x = (r : EReal)) (h1 : -5 ≤ r) (h2 : r ≤ 5) :
    (binK x).toNat = binOf r ∧ binR x = binK x := by
  have hb := floor_bounds h1 h2
  have hin : inR x = 1#1 := (inR_iff x).2 ⟨r, hx, h1, h2⟩
  have e1 : Ideal.fptosi 32 ((x - Ideal.ofBits .f32 0xC0A00000#32) * Ideal.ofBits .f32 0x41200000#32)
      = BitVec.ofInt 32 ⌊(r + 5) * 10⌋ := by
    have e : (x - Ideal.ofBits .f32 0xC0A00000#32) * Ideal.ofBits .f32 0x41200000#32
        = (((r + 5) * 10 : ℝ) : EReal) := by
      rw [hx, neg_five, ten, ← EReal.coe_sub, ← EReal.coe_mul]
      congr 2; ring
    rw [e]
    unfold Ideal.fptosi
    rw [Ideal.toIntClamped_coe, if_pos (by nlinarith)]
    congr 1
    norm_num
    omega
  have e2 : Ideal.fptosi 32 (Ideal.liftRound Int.floor
    (Ideal.div (x - Ideal.ofBits .f32 0xC0A00000#32)
      (Ideal.div (Ideal.ofBits .f32 0x41200000#32) (Ideal.ofBits .f32 0x42C80000#32))))
      = BitVec.ofInt 32 ⌊(r + 5) * 10⌋ := by
    have e : Ideal.div (x - Ideal.ofBits .f32 0xC0A00000#32)
        (Ideal.div (Ideal.ofBits .f32 0x41200000#32) (Ideal.ofBits .f32 0x42C80000#32))
        = (((r + 5) * 10 : ℝ) : EReal) := by
      rw [hx, neg_five, ten, hundred, Ideal.div_coe (by norm_num), ← EReal.coe_mul, ← EReal.coe_sub,
        Ideal.div_coe (by norm_num), ← EReal.coe_mul]
      congr 1; norm_num
    rw [e]
    show Ideal.fptosi 32 (((⌊(r + 5) * 10⌋ : ℝ)) : EReal) = _
    unfold Ideal.fptosi
    rw [Ideal.toIntClamped_coe, if_pos (by exact_mod_cast hb.1), Int.floor_intCast]
    congr 1
    norm_num
    omega
  have hm := minsi_small _ hb.1 hb.2
  have eK : binK x = IntOp.minsi (BitVec.ofInt 32 ⌊(r + 5) * 10⌋) 99#32 := by
    unfold binK
    rw [e1]
    exact if_pos hin
  refine ⟨by rw [eK]; exact hm.1, ?_⟩
  unfold binR
  rw [e2, eK]
  exact hm.2

/-- The reference's bin is one of the 100, whatever the element. -/
theorem binR_lt (x : EReal) : (binR x).toNat < 100 := by
  have h : ∀ b : BitVec 32, (IntOp.minsi 99#32 (IntOp.maxsi 0#32 b)).toNat < 100 := by
    intro b
    unfold IntOp.minsi IntOp.maxsi
    have := b.isLt
    have hb := BitVec.toInt_eq_toNat_cond b
    simp only [BitVec.sle, BitVec.slt]
    split_ifs <;> simp_all <;> omega
  exact h _

/-- An element's contribution to bin `n`, the kernel's and the reference's. -/
theorem contrib (x : EReal) (n : ℕ) (hn : n < 104) :
    (if (binK x).toNat = n then 1 else 0 : ℕ)
      = if (binR x).toNat = n then (if inR x = 1#1 then 1 else 0) else 0 := by
  by_cases h : inR x = 1#1
  · obtain ⟨r, hx, h1, h2⟩ := (inR_iff x).1 h
    rw [(bins_in hx h1 h2).2, if_pos h]
  · rw [binK_out h, if_neg h, if_neg (by simp; omega)]
    simp

/-! ### A row -/

/-- A count's term of the entropy, over the reciprocal of the guarded total. -/
def plogp (R : EReal) (n : ℕ) : EReal :=
  (n : EReal) * R * Ideal.log ((n : EReal) * R + eps)

/-- The reciprocal of a guarded count. -/
def recipOf (n : ℕ) : EReal := Ideal.div (Ideal.ofBits .f32 0x3F800000#32) ((n : EReal) + eps)

/-- How many of a row's elements the kernel puts in bin `n`. -/
def cntRow (x : Fin 5120 → EReal) (n : ℕ) : ℕ := ∑ d, if (binK (x d)).toNat = n then 1 else 0

/-- How many of a row's elements are in range. -/
def vRow (x : Fin 5120 → EReal) : ℕ := ∑ d, if inR (x d) = 1#1 then 1 else 0

/-- A row's entropy as the kernel adds it up. -/
def entRow (x : Fin 5120 → EReal) : EReal :=
  0 - ∑ n ∈ Finset.range 104, plogp (recipOf (vRow x)) (cntRow x n)

theorem cntRow_ref (x : Fin 5120 → EReal) {n : ℕ} (hn : n < 104) :
    cntRow x n = ∑ d, if (binR (x d)).toNat = n then (if inR (x d) = 1#1 then 1 else 0) else 0 :=
  Finset.sum_congr rfl fun d _ => contrib (x d) n hn

theorem cntRow_high (x : Fin 5120 → EReal) {n : ℕ} (h : 100 ≤ n) (hn : n < 104) : cntRow x n = 0 := by
  rw [cntRow_ref x hn]
  refine Finset.sum_eq_zero fun d _ => if_neg ?_
  have := binR_lt (x d)
  omega

theorem sum_cntRow (x : Fin 5120 → EReal) : ∑ n ∈ Finset.range 100, cntRow x n = vRow x := by
  rw [Finset.sum_congr rfl fun n hn => cntRow_ref x (n := n) (by have := Finset.mem_range.1 hn; omega),
    Finset.sum_comm]
  refine Finset.sum_congr rfl fun d _ => ?_
  rw [Finset.sum_ite_eq, if_pos (Finset.mem_range.2 (binR_lt _))]

theorem guarded_ne (n : ℕ) : (n : EReal) + eps ≠ 0 := by
  obtain ⟨e, he, h⟩ := eps_pos
  rw [h, ← EReal.coe_natCast, ← EReal.coe_add]
  have : (0 : ℝ) < (n : ℝ) + e := by positivity
  exact_mod_cast this.ne'

/-- A count over the guarded total, by the reciprocal or by the quotient. -/
theorem mul_recipOf (n v : ℕ) : (n : EReal) * recipOf v = Ideal.div (n : EReal) ((v : EReal) + eps) := by
  unfold recipOf
  rw [Ideal.ofBits_one_f32]
  exact Ideal.mul_one_div (guarded_ne v)

theorem plogp_zero (v : ℕ) : plogp (recipOf v) 0 = 0 := by
  simp [plogp]

/-- The kernel's entropy of a row is the reference's. -/
theorem entRow_eq (x : Fin 5120 → EReal) :
    entRow x = -∑ b : Fin 100, Ideal.div (cntRow x b : EReal) ((vRow x : EReal) + eps)
      * Ideal.log (Ideal.div (cntRow x b : EReal) ((vRow x : EReal) + eps) + eps) := by
  unfold entRow
  have h : ∑ n ∈ Finset.range 104, plogp (recipOf (vRow x)) (cntRow x n)
      = ∑ n ∈ Finset.range 100, plogp (recipOf (vRow x)) (cntRow x n) := by
    refine (Finset.sum_subset (Finset.range_subset_range.2 (by decide)) fun n hn hn' => ?_).symm
    rw [Finset.mem_range] at hn hn'
    rw [cntRow_high x (by omega) hn, plogp_zero]
  rw [h, Finset.sum_range, sub_eq_add_neg, zero_add]
  simp only [plogp, mul_recipOf]

end Cert.Elem
-- ==== Proof.Row.lean ====
/- A trip's entropy column, read at a row: every count is the number of the row's elements in its bin,
   so the stored value is the entropy of the row's histogram. -/
module

public import proofs.«01_k».proof.Proof.TripForm
public import proofs.«01_k».proof.Proof.Packed
public import proofs.«01_k».proof.Proof.Elem
public import Idealize.ShloMosaic.PureOps.Ideal
public import Idealize.ShloMosaic.PureOps.Ideal.Laws
public import Idealize.ShloMosaic.Lib.Pointwise

@[expose] public section

set_option synthInstance.maxSize 4096

noncomputable section

namespace Cert.KernelIdeal.Entropy

open Idealize.ShloMosaic Idealize.SL.Sem Cert.KernelIdeal.Gen Cert.Packed Cert.Elem Idealize.ShloMosaic.PackedFields

theorem inRange_apply (x : FVec Ideal S8x128 .f32) (i : S8x128.Idx) : inRange x i = inR (x i) := rfl

theorem bins_apply (x : FVec Ideal S8x128 .f32) (i : S8x128.Idx) : bins x i = binK (x i) := rfl

theorem wordAdd_apply (j : BitVec 32) (x : FVec Ideal S8x128 .f32) (i : S8x128.Idx) :
    wordAdd j x i = nibble .vector j (binK (x i)) := rfl

/-- A fold of word vectors is a fold at each position. -/
theorem foldl_apply {α : Type*} {s : Shape} (g : α → IVec s 32) (i : s.Idx) :
    ∀ (xs : List α) (a : IVec s 32),
      (xs.foldl (fun a x => addi a (g x)) a) i = xs.foldl (fun a x => IntOp.addi a (g x i)) (a i)
  | [], _ => rfl
  | x :: xs, a => by rw [List.foldl_cons, foldl_apply g i xs]; rfl

/-- The bins of a run's elements at a position. -/
def binsAt (i : S8x128.Idx) (xs : List (FVec Ideal S8x128 .f32)) : List (BitVec 32) :=
  xs.map fun x => binK (x i)

theorem words_apply (j : BitVec 32) (xs : List (FVec Ideal S8x128 .f32)) (i : S8x128.Idx) :
    words j xs i = run .vector j (binsAt i xs) := by
  unfold words run binsAt
  rw [foldl_apply, List.foldl_map]
  rfl

theorem evens_apply (j : BitVec 32) (gs : List (List (FVec Ideal S8x128 .f32))) (i : S8x128.Idx) :
    evens j gs i = evenBytes .vector j (gs.map (binsAt i)) := by
  unfold evens evenBytes
  rw [foldl_apply, List.foldl_map]
  simp only [← words_apply]
  rfl

theorem odds_apply (j : BitVec 32) (gs : List (List (FVec Ideal S8x128 .f32))) (i : S8x128.Idx) :
    odds j gs i = oddBytes .vector j (gs.map (binsAt i)) := by
  unfold odds oddBytes
  rw [foldl_apply, List.foldl_map]
  simp only [← words_apply]
  rfl

/-- A row's lane sum is the sum of the lanes' values while that is a word. -/
theorem laneSum_apply (w : IVec S8x128 32) (r : Fin 8) (h : ∑ l : Fin 128, (w (ix2 r l)).toNat < 2 ^ 32) :
    (laneSum w (ix2 r 0)).toNat = ∑ l : Fin 128, (w (ix2 r l)).toNat := by
  unfold laneSum
  pointwise
  rw [← WordSum.toNat_sum Finset.univ (fun l => w (ix2 r l)) h]
  exact congrArg BitVec.toNat (Finset.sum_eq_fold (s := Finset.univ) (f := fun l => w (ix2 r l))).symm

/-- The number of a row's elements in bin `n`. -/
def binCount (gs : List (List (FVec Ideal S8x128 .f32))) (r : Fin 8) (n : ℕ) : ℕ :=
  ∑ l : Fin 128, ((gs.map (binsAt (ix2 r l))).map fun bs => cnt bs n).sum

/-- Three runs of at most 15 chunks. -/
def Small (gs : List (List (FVec Ideal S8x128 .f32))) : Prop :=
  gs.length ≤ 3 ∧ ∀ xs ∈ gs, xs.length ≤ 15

theorem lane_le {gs : List (List (FVec Ideal S8x128 .f32))} (hg : Small gs) (i : S8x128.Idx) (n : ℕ) :
    ((gs.map (binsAt i)).map fun bs => cnt bs n).sum ≤ 45 := by
  rw [List.map_map]
  refine (List.sum_le_card_nsmul _ 15 fun x hx => ?_).trans ?_
  · obtain ⟨xs, hxs, rfl⟩ := List.mem_map.1 hx
    exact (cnt_le _ _).trans (by simpa [binsAt] using hg.2 xs hxs)
  · have := hg.1
    simp only [List.length_map, smul_eq_mul]
    omega

theorem binCount_le {gs : List (List (FVec Ideal S8x128 .f32))} (hg : Small gs) (r : Fin 8) (n : ℕ) :
    binCount gs r n ≤ 5760 := by
  refine (Finset.sum_le_card_nsmul _ _ 45 fun l _ => lane_le hg _ n).trans ?_
  simp

/-- The counts a word vector of bytes holds, from its bytes lane by lane. -/
theorem quarters_apply (w : IVec S8x128 32) (r : Fin 8) (G : ℕ → Fin 128 → ℕ) (hG : ∀ i l, G i l ≤ 45)
    (hw : ∀ i < 4, ∀ l, field 8 i (w (ix2 r l)).toNat = G i l) :
    (quarters w).map (fun h => (h (ix2 r 0)).toNat)
      = [∑ l, G 0 l, ∑ l, G 1 l, ∑ l, G 2 l, ∑ l, G 3 l] := by
  have hb : ∀ i, ∑ l, G i l < 65536 := fun i =>
    lt_of_le_of_lt (Finset.sum_le_card_nsmul _ _ 45 fun l _ => hG i l) (by simp)
  have key : ∀ (v : IVec S8x128 32) (o : ℕ), o < 2 →
      (∀ k < 2, ∀ l, field 16 k (v (ix2 r l)).toNat = G (2 * k + o) l) →
      ∀ k < 2, field 16 k (laneSum v (ix2 r 0)).toNat = ∑ l, G (2 * k + o) l := by
    intro v o ho hv k hk
    have h : ∀ k < 2, ∑ l : Fin 128, field 16 k (v (ix2 r l)).toNat < 65536 := fun k hk => by
      simp only [hv k hk]; exact hb _
    rw [halves_sum Finset.univ (fun l => v (ix2 r l)) _
      (laneSum_apply v r (sum_lt Finset.univ (fun l => v (ix2 r l)) h)) h k hk]
    simp only [hv k hk]
  have lo := key (andi w (broadcast S8x128 16711935#32)) 0 (by decide) (fun k hk l => by
    rw [← hw _ (by omega)]
    exact field_andi_even (w := 8) isEvenMask_8 k (w (ix2 r l)))
  have hi := key (andi (shrui w (broadcast S8x128 8#32)) (broadcast S8x128 16711935#32)) 1 (by decide)
    (fun k hk l => by
      rw [← hw _ (by omega)]
      exact field_shrui_andi_odd (w := 8) isEvenMask_8 (by decide) k (w (ix2 r l)))
  unfold quarters
  simp only [List.map_cons, List.map_nil]
  refine congrArg₂ _ ?_ (congrArg₂ _ ?_ (congrArg₂ _ ?_ (congrArg₂ _ ?_ rfl)))
  · exact (toNat_andi_low16 _).trans (lo 0 (by decide))
  · exact (toNat_andi_low16 _).trans (hi 0 (by decide))
  · exact (toNat_shrui_high16 (u := .vector) _).trans (lo 1 (by decide))
  · exact (toNat_shrui_high16 (u := .vector) _).trans (hi 1 (by decide))

/-- The bins in the kernel's order. -/
def order : List ℕ :=
  wordNos.flatMap fun j => [8 * j.toNat, 8 * j.toNat + 2, 8 * j.toNat + 4, 8 * j.toNat + 6]
    ++ [8 * j.toNat + 1, 8 * j.toNat + 3, 8 * j.toNat + 5, 8 * j.toNat + 7]

/-- They are the bins 0 to 103. -/
theorem order_perm : order.Perm (List.range 104) := by decide

/-- The trip's counts at a row. -/
theorem counts_apply {gs : List (List (FVec Ideal S8x128 .f32))} (hg : Small gs) (r : Fin 8) :
    (counts gs).map (fun h => (h (ix2 r 0)).toNat) = order.map (binCount gs r) := by
  unfold counts order
  rw [List.map_flatMap, List.map_flatMap]
  refine List.flatMap_congr fun j _ => ?_
  have hg1 : ∀ i : S8x128.Idx, (gs.map (binsAt i)).length ≤ 3 := fun i => by simpa using hg.1
  have hg2 : ∀ i : S8x128.Idx, ∀ bs ∈ gs.map (binsAt i), bs.length ≤ 15 := fun i bs hbs => by
    obtain ⟨xs, hxs, rfl⟩ := List.mem_map.1 hbs
    simpa [binsAt] using hg.2 xs hxs
  rw [List.map_append, List.map_append,
    quarters_apply (evens j gs) r
      (fun i l => ((gs.map (binsAt (ix2 r l))).map fun bs => cnt bs (8 * j.toNat + 2 * i)).sum)
      (fun i l => lane_le hg _ _)
      (fun i hi l => by rw [evens_apply, field_evenBytes j _ (hg1 _) (hg2 _) i hi]),
    quarters_apply (odds j gs) r
      (fun i l => ((gs.map (binsAt (ix2 r l))).map fun bs => cnt bs (8 * j.toNat + (2 * i + 1))).sum)
      (fun i l => lane_le hg _ _)
      (fun i hi l => by rw [odds_apply, field_oddBytes j _ (hg1 _) (hg2 _) i hi])]
  rfl

/-- A small word's value as a float. -/
theorem sitofp_small (b : BitVec 32) (h : b.toNat < 2 ^ 31) :
    FloatOps.sitofp (F := Ideal) .f32 b = (b.toNat : EReal) := by
  have e : b.toInt = (b.toNat : ℤ) := by rw [BitVec.toInt_eq_toNat_cond]; split <;> omega
  show (((b.toInt : ℝ)) : EReal) = _
  rw [e]
  norm_cast

/-- The terms added up at a row. -/
theorem foldl_term_apply (R : FVec Ideal S8x1 .f32) (i : S8x1.Idx) :
    ∀ (hs : List (IVec S8x1 32)) (a : FVec Ideal S8x1 .f32), (∀ h ∈ hs, (h i).toNat < 2 ^ 31) →
      hs.foldl (term R) a i = a i + ((hs.map fun h => (h i).toNat).map (plogp (R i))).sum
  | [], a, _ => by simp
  | h :: hs, a, hh => by
    rw [List.foldl_cons, foldl_term_apply R i hs _ (fun x hx => hh x (by simp [hx])), List.map_cons,
      List.map_cons, List.sum_cons, ← add_assoc]
    refine congrArg (· + _) ?_
    show a i + FloatOps.sitofp (F := Ideal) .f32 (h i) * R i
      * Ideal.log (FloatOps.sitofp (F := Ideal) .f32 (h i) * R i + eps) = _
    rw [sitofp_small _ (hh h (by simp))]
    rfl

/-- The number of a row's elements in range. -/
def validCount (gs : List (List (FVec Ideal S8x128 .f32))) (r : Fin 8) : ℕ :=
  ∑ l : Fin 128, (gs.flatten.map fun x => (if inR (x (ix2 r l)) = 1#1 then 1 else 0 : ℕ)).sum

theorem flatten_le {gs : List (List (FVec Ideal S8x128 .f32))} (hg : Small gs) : gs.flatten.length ≤ 45 := by
  rw [List.length_flatten]
  refine (List.sum_le_card_nsmul _ 15 fun x hx => ?_).trans ?_
  · obtain ⟨xs, hxs, rfl⟩ := List.mem_map.1 hx
    exact hg.2 xs hxs
  · have := hg.1
    simp only [List.length_map, smul_eq_mul]
    omega

theorem validAdd_toNat (x : FVec Ideal S8x128 .f32) (i : S8x128.Idx) :
    (validAdd x i).toNat = if inR (x i) = 1#1 then 1 else 0 := by
  show (if inR (x i) = 1#1 then 1#32 else 0#32).toNat = _
  by_cases h : inR (x i) = 1#1
  · rw [if_pos h, if_pos h]; rfl
  · rw [if_neg h, if_neg h]; rfl

theorem valids_apply {gs : List (List (FVec Ideal S8x128 .f32))} (hg : Small gs) (i : S8x128.Idx) :
    (valids gs i).toNat = (gs.flatten.map fun x => (if inR (x i) = 1#1 then 1 else 0 : ℕ)).sum := by
  have f0 : ∀ a : BitVec 32, field 32 0 a.toNat = a.toNat := fun a => by
    have := a.isLt
    simp only [field, Nat.mul_zero, Nat.shiftRight_zero]
    omega
  have hfl := flatten_le hg
  unfold valids
  rw [← List.foldl_flatten, foldl_apply]
  have := field_foldl (w := 32) (n := 1) (by decide) (fun x => validAdd x i) 1 gs.flatten
    (broadcast S8x128 0#32 i)
    (fun x _ k hk => by
      obtain rfl : k = 0 := by omega
      rw [f0, validAdd_toNat]; split <;> omega)
    (fun k hk => by
      obtain rfl : k = 0 := by omega
      rw [f0, show (broadcast S8x128 0#32 i).toNat = 0 from rfl]; omega) 0 (by decide)
  rw [f0, f0, show (broadcast S8x128 0#32 i).toNat = 0 from rfl, Nat.zero_add] at this
  rw [this]
  exact congrArg List.sum (List.map_congr_left fun x _ => by rw [f0, validAdd_toNat])

theorem lane_valid_le {gs : List (List (FVec Ideal S8x128 .f32))} (hg : Small gs) (i : S8x128.Idx) :
    (gs.flatten.map fun x => (if inR (x i) = 1#1 then 1 else 0 : ℕ)).sum ≤ 45 := by
  have hfl := flatten_le hg
  refine (List.sum_le_card_nsmul _ 1 fun x hx => ?_).trans (by rw [List.length_map]; simpa only [smul_eq_mul, Nat.mul_one] using hfl)
  obtain ⟨y, _, rfl⟩ := List.mem_map.1 hx
  split <;> omega

theorem validCount_le {gs : List (List (FVec Ideal S8x128 .f32))} (hg : Small gs) (r : Fin 8) :
    validCount gs r ≤ 5760 := by
  refine (Finset.sum_le_card_nsmul _ _ 45 fun l _ => lane_valid_le hg _).trans ?_
  simp

theorem recip_apply {gs : List (List (FVec Ideal S8x128 .f32))} (hg : Small gs) (r : Fin 8) :
    recip gs (ix2 r 0) = recipOf (validCount gs r) := by
  have h1 : (laneSum (valids gs) (ix2 r 0)).toNat = validCount gs r := by
    have e : ∑ l : Fin 128, (valids gs (ix2 r l)).toNat = validCount gs r :=
      Finset.sum_congr rfl fun l _ => valids_apply hg _
    have := validCount_le hg r
    rw [laneSum_apply _ _ (by rw [e]; omega), e]
  show Ideal.div (Ideal.ofBits .f32 0x3F800000#32)
    (FloatOps.sitofp (F := Ideal) .f32 (laneSum (valids gs) (ix2 r 0)) + eps) = _
  rw [sitofp_small _ (by rw [h1]; have := validCount_le hg r; omega), h1]
  rfl

/-- A trip's stored column at a row. -/
theorem tripPay_apply {gs : List (List (FVec Ideal S8x128 .f32))} (hg : Small gs) (r : Fin 8) :
    tripPay gs (ix2 r 0)
      = 0 - ∑ n ∈ Finset.range 104, plogp (recipOf (validCount gs r)) (binCount gs r n) := by
  have hc := counts_apply hg r
  have hs : ∀ h ∈ counts gs, (h (ix2 r 0)).toNat < 2 ^ 31 := fun h hh => by
    have hm : (h (ix2 r 0)).toNat ∈ order.map (binCount gs r) := hc ▸ List.mem_map_of_mem hh
    obtain ⟨n, _, e⟩ := List.mem_map.1 hm
    have := binCount_le hg r n
    omega
  have ht := foldl_term_apply (recip gs) (ix2 r 0) (counts gs)
    (broadcast S8x1 (0 : EReal)) hs
  unfold tripPay
  pointwise
  rw [ht, hc, recip_apply hg, List.map_map]
  show (0 : EReal) - ((0 : EReal) + _) = _
  rw [zero_add]
  exact congrArg (0 - ·) ((order_perm.map _).sum_eq)

end Cert.KernelIdeal.Entropy
-- ==== Proof.Chunks.lean ====
/- The 40 chunks of a trip are the 40 groups of 128 columns of the trip's 8 rows, so a trip's counts are
   the counts of whole rows and its stored column is the rows' entropies. -/
module

public import proofs.«01_k».proof.Proof.Row
public import Idealize.ShloMosaic.Lib.WholeRead

@[expose] public section

set_option synthInstance.maxSize 4096

noncomputable section

namespace Cert.KernelIdeal.Entropy

open Idealize.ShloMosaic Idealize.SL.Sem Cert.KernelIdeal.Gen Cert.Packed Cert.Elem

theorem trips_eq : k0_t1_loop.trips = 64 := by decide +kernel

/-- Row `r` of trip `k`'s 8 rows. -/
def tripRow (k : Fin k0_t1_loop.trips) (r : Fin 8) : Fin 512 :=
  ⟨8 * k.val + r.val, by have h := k.isLt; have e := trips_eq; omega⟩

/-- Column `l` of chunk `c`. -/
def chunkCol (c : Fin 40) (l : Fin 128) : Fin 5120 := ⟨128 * c.val + l.val, by omega⟩

/-- Chunk `c` of trip `k`'s rows. -/
def chunk (x0 : FVec Ideal S512x5120 .f32) (k : Fin k0_t1_loop.trips) (c : Fin 40) : FVec Ideal S8x128 .f32 :=
  fun i => x0 (ix2 (tripRow k (i 0)) (chunkCol c (i 1)))

theorem chunkAt_eq {arg1 : Memref sig .tc .vmem S512x5120 .f32} (harg1 : arg1.IsWhole) (x0 : FVec Ideal S512x5120 .f32)
    (k : Fin k0_t1_loop.trips) (c : Fin 40) {off : Fin 2 → ℕ} (h : ∀ a, off a + S8x128.size a ≤ S512x5120.size a)
    (e : off = ![8 * k.val, 128 * c.val]) :
    chunkAt (F := Ideal) arg1 (harg1.unread x0) off h = chunk x0 k c := by
  subst e
  funext i
  refine (Memref.IsWhole.readAt_unread (Val := Elt Ideal) harg1 x0 (Rect.unit (s := S512x5120) _ S8x128.size h).toLoadRect i).trans ?_
  refine congrArg x0 ?_
  funext a
  refine Fin.cases ?_ (fun a => ?_) a
  · exact Fin.ext (by simp [tripRow, LoadRect.idx, Rect.toLoadRect, Rect.unit, ix2])
  · obtain rfl : a = 0 := Subsingleton.elim _ _
    exact Fin.ext (by simp [chunkCol, LoadRect.idx, Rect.toLoadRect, Rect.unit, ix2])

/-- The chunks in their three runs, by number. -/
def byNumber (ch : Fin 40 → FVec Ideal S8x128 .f32) : List (List (FVec Ideal S8x128 .f32)) :=
  [List.ofFn fun j : Fin 15 => ch ⟨j.val, by omega⟩, List.ofFn fun j : Fin 15 => ch ⟨15 + j.val, by omega⟩,
    List.ofFn fun j : Fin 10 => ch ⟨30 + j.val, by omega⟩]

theorem runs_eq {arg1 : Memref sig .tc .vmem S512x5120 .f32} (harg1 : arg1.IsWhole) (x0 : FVec Ideal S512x5120 .f32)
    (k : Fin k0_t1_loop.trips) : runs (F := Ideal) arg1 (harg1.unread x0) k = byNumber (chunk x0 k) := by
  unfold runs
  rw [chunkAt_eq harg1 x0 k 0 _ (k0_off1_eq k), chunkAt_eq harg1 x0 k 1 _ (k0_off2_eq k), chunkAt_eq harg1
      x0 k 2 _ (k0_off3_eq k), chunkAt_eq harg1 x0 k 3 _ (k0_off4_eq k), chunkAt_eq harg1 x0 k 4 _
      (k0_off5_eq k), chunkAt_eq harg1 x0 k 5 _ (k0_off6_eq k), chunkAt_eq harg1 x0 k 6 _ (k0_off7_eq k),
      chunkAt_eq harg1 x0 k 7 _ (k0_off8_eq k), chunkAt_eq harg1 x0 k 8 _ (k0_off9_eq k), chunkAt_eq harg1
      x0 k 9 _ (k0_off10_eq k), chunkAt_eq harg1 x0 k 10 _ (k0_off11_eq k), chunkAt_eq harg1 x0 k 11 _
      (k0_off12_eq k), chunkAt_eq harg1 x0 k 12 _ (k0_off13_eq k), chunkAt_eq harg1 x0 k 13 _ (k0_off14_eq
      k), chunkAt_eq harg1 x0 k 14 _ (k0_off15_eq k), chunkAt_eq harg1 x0 k 15 _ (k0_off16_eq k),
      chunkAt_eq harg1 x0 k 16 _ (k0_off17_eq k), chunkAt_eq harg1 x0 k 17 _ (k0_off18_eq k), chunkAt_eq
      harg1 x0 k 18 _ (k0_off19_eq k), chunkAt_eq harg1 x0 k 19 _ (k0_off20_eq k), chunkAt_eq harg1 x0 k
      20 _ (k0_off21_eq k), chunkAt_eq harg1 x0 k 21 _ (k0_off22_eq k), chunkAt_eq harg1 x0 k 22 _
      (k0_off23_eq k), chunkAt_eq harg1 x0 k 23 _ (k0_off24_eq k), chunkAt_eq harg1 x0 k 24 _ (k0_off25_eq
      k), chunkAt_eq harg1 x0 k 25 _ (k0_off26_eq k), chunkAt_eq harg1 x0 k 26 _ (k0_off27_eq k),
      chunkAt_eq harg1 x0 k 27 _ (k0_off28_eq k), chunkAt_eq harg1 x0 k 28 _ (k0_off29_eq k), chunkAt_eq
      harg1 x0 k 29 _ (k0_off30_eq k), chunkAt_eq harg1 x0 k 30 _ (k0_off31_eq k), chunkAt_eq harg1 x0 k
      31 _ (k0_off32_eq k), chunkAt_eq harg1 x0 k 32 _ (k0_off33_eq k), chunkAt_eq harg1 x0 k 33 _
      (k0_off34_eq k), chunkAt_eq harg1 x0 k 34 _ (k0_off35_eq k), chunkAt_eq harg1 x0 k 35 _ (k0_off36_eq
      k), chunkAt_eq harg1 x0 k 36 _ (k0_off37_eq k), chunkAt_eq harg1 x0 k 37 _ (k0_off38_eq k),
      chunkAt_eq harg1 x0 k 38 _ (k0_off39_eq k), chunkAt_eq harg1 x0 k 39 _ (k0_off40_eq k)]
  rfl

theorem small_byNumber (ch : Fin 40 → FVec Ideal S8x128 .f32) : Small (byNumber ch) := by
  refine ⟨le_refl _, fun xs hxs => ?_⟩
  simp only [byNumber, List.mem_cons, List.not_mem_nil, or_false] at hxs
  rcases hxs with rfl | rfl | rfl <;> simp

/-- A sum over the three runs is the sum over the chunks. -/
theorem sum_byNumber (ch : Fin 40 → FVec Ideal S8x128 .f32) (f : FVec Ideal S8x128 .f32 → ℕ) :
    (((byNumber ch).flatten).map f).sum = ∑ c, f (ch c) := by
  have hf : (byNumber ch).flatten = List.ofFn ch := rfl
  rw [hf, List.map_ofFn, List.sum_ofFn]
  rfl

theorem sum_runs (gs : List (List (FVec Ideal S8x128 .f32))) (i : S8x128.Idx) (n : ℕ) :
    ((gs.map (binsAt i)).map fun bs => cnt bs n).sum
      = (gs.flatten.map fun x => if (binK (x i)).toNat = n then 1 else 0).sum := by
  induction gs with
  | nil => rfl
  | cons g gs ih =>
    rw [List.map_cons, List.map_cons, List.sum_cons, ih, List.flatten_cons, List.map_append, List.sum_append]
    unfold cnt binsAt
    rw [List.map_map]
    rfl

/-- Lane by lane and chunk by chunk is column by column. -/
theorem sum_cols (g : Fin 5120 → ℕ) : ∑ l : Fin 128, ∑ c : Fin 40, g (chunkCol c l) = ∑ d, g d := by
  rw [Finset.sum_comm, ← Fintype.sum_prod_type' (fun (c : Fin 40) (l : Fin 128) => g (chunkCol c l))]
  refine Fintype.sum_equiv (finProdFinEquiv (m := 40) (n := 128)) _ _ fun p => congrArg g (Fin.ext ?_)
  simp only [chunkCol, finProdFinEquiv_apply_val]
  omega

/-- Row `R` of a block. -/
def blockRow (x0 : FVec Ideal S512x5120 .f32) (R : Fin 512) : Fin 5120 → EReal := fun d => x0 (ix2 R d)

theorem binCount_eq (x0 : FVec Ideal S512x5120 .f32) (k : Fin k0_t1_loop.trips) (r : Fin 8) (n : ℕ) :
    binCount (byNumber (chunk x0 k)) r n = cntRow (blockRow x0 (tripRow k r)) n := by
  unfold binCount cntRow
  simp only [sum_runs, sum_byNumber]
  exact sum_cols fun d => if (binK (blockRow x0 (tripRow k r) d)).toNat = n then 1 else 0

theorem validCount_eq (x0 : FVec Ideal S512x5120 .f32) (k : Fin k0_t1_loop.trips) (r : Fin 8) :
    validCount (byNumber (chunk x0 k)) r = vRow (blockRow x0 (tripRow k r)) := by
  unfold validCount vRow
  simp only [sum_byNumber]
  exact sum_cols fun d => if inR (blockRow x0 (tripRow k r) d) = 1#1 then 1 else 0

/-- What trip `k` stores at its row `r`. -/
theorem tripPay_row {arg1 : Memref sig .tc .vmem S512x5120 .f32} (harg1 : arg1.IsWhole) (x0 : FVec Ideal S512x5120 .f32)
    (k : Fin k0_t1_loop.trips) (r : Fin 8) :
    tripPay (F := Ideal) (runs arg1 (harg1.unread x0) k) (ix2 r 0) = entRow (blockRow x0 (tripRow k r)) := by
  rw [runs_eq, tripPay_apply (small_byNumber _), validCount_eq]
  unfold entRow
  simp only [binCount_eq]

end Cert.KernelIdeal.Entropy
-- ==== Proof.Column.lean ====
/- The scratch column after the loop: its 64 trips store 8 rows each, so it holds the entropy of every
   row of the block. -/
module

public import proofs.«01_k».proof.Proof.Chunks
public import Idealize.ShloMosaic.Lib.Pipeline.ValueKit

@[expose] public section

set_option synthInstance.maxSize 4096
set_option maxRecDepth 16384

noncomputable section

namespace Cert.KernelIdeal.Entropy

open Idealize.ShloMosaic Idealize.ShloMosaic.TcCoe Idealize.SL.Sem Cert.KernelIdeal.Gen Cert.Elem

/-- The entropies of a block's rows. -/
def entCol (x0 : FVec Ideal S512x5120 .f32) : FVec Ideal S512x1 .f32 := fun j => entRow (blockRow x0 (j 0))

/-- Where trip `k` stores its row `r`. -/
theorem store_emb (k : Fin k0_t1_loop.trips) (h : ∀ a, k0_off41 k a + S8x1.size a ≤ S512x1.size a)
    (x : S8x1.Idx) : (((Rect.unit (s := S512x1) (k0_off41 k) S8x1.size h).emb x) 0 : Fin 512) = tripRow k (x 0) := by
  refine Fin.ext ?_
  have e := congrFun (k0_off41_eq k) 0
  simp only [Rect.emb, Rect.unit, Function.Embedding.coeFn_mk, tripRow]
  simp [e]

section Run

variable (c : Dev nD) (i : grid0.Coords) (arg1 : Memref sig .tc .vmem S512x5120 .f32) (harg1 : arg1.IsWhole) (arg2 : Memref sig .tc .vmem S5120x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S128x512 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .smem S1 .f32) (harg9 : arg9.IsWhole) (arg10 : Memref sig .tc .vmem S512x64 .f32) (harg10 : arg10.IsWhole) (arg11 : Memref sig .tc .vmem S512x1 .f32) (harg11 : arg11.IsWhole)

/-- The one store of trip `k`. -/
theorem trip_pieces (X : BufTy.Contents (Elt Ideal) arg1.view.ty) (k : Fin k0_t1_loop.trips) :
    tripL_k0_t1 (F := Ideal) Variants.none c none i arg1 harg1 arg2 harg2 arg3 harg3 arg4 harg4 arg5 harg5 arg6 harg6 arg7 harg7 arg8 harg8 arg9 harg9 arg10 harg10 arg11 harg11 X k
      = [⟨Rect.unit (s := S512x1) (k0_off41 k) S8x1.size (k0_off41_inb k), tripPay (runs arg1 X k)⟩] := by
  unfold tripL_k0_t1 trip_k0_t1
  dsimp only
  rw [pay_eq]

/-- Every stored piece is the entropies of its rows. -/
theorem pieces_agree (x0 : FVec Ideal S512x5120 .f32) : ∀ n ≤ k0_t1_loop.trips,
    ∀ p ∈ pb_k0_t1 (F := Ideal) Variants.none c none i arg1 harg1 arg2 harg2 arg3 harg3 arg4 harg4 arg5 harg5 arg6 harg6 arg7 harg7 arg8 harg8 arg9 harg9 arg10 harg10 arg11 harg11 (harg1.unread x0) n,
      ∀ x : p.1.shape.Idx, p.2 x = entCol x0 (p.1.emb x)
  | 0, _, p, hp => by simp [pb_k0_t1] at hp
  | n + 1, hn, p, hp => by
    rw [show n + 1 = (⟨n, hn⟩ : Fin k0_t1_loop.trips).val + 1 from rfl, pb_k0_t1_succ, trip_pieces] at hp
    rcases List.mem_append.1 hp with hp | hp
    · obtain rfl := List.mem_singleton.1 hp
      intro x
      have hx : x = ix2 (x 0) 0 := by
        funext a
        refine Fin.cases rfl (fun a => ?_) a
        obtain rfl : a = 0 := Subsingleton.elim _ _
        exact Subsingleton.elim (α := Fin 1) _ _
      refine (congrArg (tripPay (F := Ideal) (runs arg1 (harg1.unread x0) ⟨n, hn⟩)) hx).trans ?_
      refine (tripPay_row harg1 x0 ⟨n, hn⟩ (x 0)).trans ?_
      exact congrArg (fun R => entRow (blockRow x0 R)) (store_emb ⟨n, hn⟩ (k0_off41_inb ⟨n, hn⟩) x).symm
    · exact pieces_agree x0 n (Nat.le_of_succ_le hn) p hp

/-- The first `n` trips store the first `8 n` rows. -/
theorem pieces_cover (X : BufTy.Contents (Elt Ideal) arg1.view.ty) : ∀ n ≤ k0_t1_loop.trips, ∀ y : S512x1.Idx,
    (y 0).val < 8 * n →
      ∃ p ∈ pb_k0_t1 (F := Ideal) Variants.none c none i arg1 harg1 arg2 harg2 arg3 harg3 arg4 harg4 arg5 harg5 arg6 harg6 arg7 harg7 arg8 harg8 arg9 harg9 arg10 harg10 arg11 harg11 X n, y ∈ p.1.set
  | 0, _, _, hy => by omega
  | n + 1, hn, y, hy => by
    rw [show n + 1 = (⟨n, hn⟩ : Fin k0_t1_loop.trips).val + 1 from rfl, pb_k0_t1_succ, trip_pieces]
    by_cases h : (y 0).val < 8 * n
    · obtain ⟨p, hp, hy⟩ := pieces_cover X n (Nat.le_of_succ_le hn) y h
      exact ⟨p, List.mem_append_right _ hp, hy⟩
    · refine ⟨_, List.mem_append_left _ (List.mem_singleton.2 rfl), ?_⟩
      have hy1 : (y 1).val < 1 := (y 1).isLt
      rw [Rect.mem_set_unit]
      intro a
      rw [k0_off41_eq]
      refine Fin.cases ?_ (fun a => ?_) a
      · simp; omega
      · obtain rfl : a = 0 := Subsingleton.elim _ _
        simp

/-- The scratch column after the loop. -/
theorem column_eq (x0 : FVec Ideal S512x5120 .f32) :
    View.canon (pb_k0_t1 (F := Ideal) Variants.none c none i arg1 harg1 arg2 harg2 arg3 harg3 arg4 harg4 arg5 harg5 arg6 harg6 arg7 harg7 arg8 harg8 arg9 harg9 arg10 harg10 arg11 harg11 (harg1.unread x0)
      (Scf.trips k0_t1_loop.lb k0_t1_loop.ub k0_t1_loop.st)) = entCol x0 :=
  funext fun y => View.canon_apply_of_pieces _ _ (pieces_agree _ _ _ _ _ _ _ _ _ _ _ _ _ _ _ _ _ _ _ _ _ _ _ _ x0 k0_t1_loop.trips le_rfl) y
    (pieces_cover _ _ _ _ _ _ _ _ _ _ _ _ _ _ _ _ _ _ _ _ _ _ _ _ _ k0_t1_loop.trips le_rfl y
      (by have := trips_eq; have := (y 0).isLt; simp at this; omega))

end Run

end Cert.KernelIdeal.Entropy
-- ==== Proof.Policy.lean ====
/- The calculation after the entropy, one row at a time over extended reals: the gated state, the policy's
   hidden layer, the sign of its gradient, the perturbed state's logits and their softmax. -/
module

public import proofs.«01_k».proof.Proof.Elem
public import Idealize.ShloMosaic.PureOps.Ideal
public import Idealize.ShloMosaic.PureOps.Ideal.Laws
public import Idealize.ShloMosaic.Lib.IdealHost

@[expose] public section

noncomputable section

namespace Cert.Policy

open Idealize.ShloMosaic

/-- The entropy threshold. -/
def thr : EReal := Ideal.ofBits .f32 0x40200000#32

/-- The perturbation's size. -/
def eta : EReal := Ideal.ofBits .f32 0x3DCCCCCD#32

/-- The mean's weight: one over the number of logits. -/
def wgt : EReal := Ideal.div (Ideal.ofBits .f32 0x3F800000#32) (Ideal.ofBits .f32 0x49800000#32)

/-- The start of a maximum. -/
def low : EReal := Ideal.ofBits .f32 0xFF800000#32

/-- The compressed row, where its entropy `e` passes. -/
def gated (e : EReal) (x : Fin 5120 → EReal) (S : Fin 5120 → Fin 512 → EReal) (k : Fin 512) : EReal :=
  if thr ≤ e then ∑ d, x d * S d k else 0

/-- The state. -/
def state (e : EReal) (x : Fin 5120 → EReal) (S : Fin 5120 → Fin 512 → EReal) (A : Fin 512 → Fin 512 → EReal)
    (n : Fin 512) : EReal := ∑ k, gated e x S k * A k n

/-- The hidden layer before its rectifier. -/
def pre (s : Fin 512 → EReal) (W1 : Fin 512 → Fin 128 → EReal) (b1 : Fin 128 → EReal) (h : Fin 128) : EReal :=
  ∑ n, s n * W1 n h + b1 h

/-- The gradient of the mean logit by the state. -/
def grad (s : Fin 512 → EReal) (W1 : Fin 512 → Fin 128 → EReal) (b1 : Fin 128 → EReal)
    (W2 : Fin 128 → Fin 64 → EReal) (n : Fin 512) : EReal :=
  ∑ h, (if 0 < pre s W1 b1 h then ∑ a, wgt * W2 h a else 0) * W1 n h

/-- The perturbed state. -/
def adv (s g : Fin 512 → EReal) (n : Fin 512) : EReal := s n - eta * Ideal.sign (g n)

/-- The logits. -/
def logit (s : Fin 512 → EReal) (W1 : Fin 512 → Fin 128 → EReal) (b1 : Fin 128 → EReal)
    (W2 : Fin 128 → Fin 64 → EReal) (b2 : Fin 64 → EReal) (a : Fin 64) : EReal :=
  ∑ h, max (pre s W1 b1 h) 0 * W2 h a + b2 a

/-- The softmax of a row. -/
def softmax (l : Fin 64 → EReal) (a : Fin 64) : EReal :=
  Ideal.div (Ideal.exp (l a - Finset.univ.fold max low l)) (∑ a', Ideal.exp (l a' - Finset.univ.fold max low l))

/-- A row's result. -/
def probs (e : EReal) (x : Fin 5120 → EReal) (S : Fin 5120 → Fin 512 → EReal) (A : Fin 512 → Fin 512 → EReal)
    (W1 : Fin 512 → Fin 128 → EReal) (b1 : Fin 128 → EReal) (W2 : Fin 128 → Fin 64 → EReal) (b2 : Fin 64 → EReal)
    (a : Fin 64) : EReal :=
  softmax (logit (adv (state e x S A) (grad (state e x S A) W1 b1 W2)) W1 b1 W2 b2) a

theorem wgt_real : wgt = (((1048576 : ℝ)⁻¹ : ℝ) : EReal) := by
  have h : Ideal.ofBits .f32 0x49800000#32 = ((1048576 : ℝ) : EReal) := by
    simp [Ideal.ofBits, Ideal.ieee, -EReal.coe_mul, -EReal.coe_neg]; norm_num
  unfold wgt
  rw [h, Elem.one, Ideal.div_coe (by norm_num)]
  norm_num

/-- The kernel's weight is a constant of the same value. -/
theorem wgt_eq : Ideal.ofBits .f32 0x35800000#32 = wgt := by
  rw [wgt_real]
  simp [Ideal.ofBits, Ideal.ieee, -EReal.coe_mul, -EReal.coe_neg]; norm_num

theorem wgt_nonneg : 0 ≤ wgt := by
  rw [wgt_real]
  exact EReal.coe_nonneg.2 (by norm_num)

theorem wgt_ne_top : wgt ≠ ⊤ := by
  rw [wgt_real]
  exact EReal.coe_ne_top _

/-- The weight comes out of a sum. -/
theorem sum_wgt {ι : Type*} (s : Finset ι) (f : ι → EReal) : ∑ a ∈ s, wgt * f a = (∑ a ∈ s, f a) * wgt := by
  classical
  induction s using Finset.induction_on with
  | empty => simp
  | insert a s ha ih =>
    rw [Finset.sum_insert ha, Finset.sum_insert ha, ih,
      EReal.right_distrib_of_nonneg_of_ne_top wgt_nonneg wgt_ne_top, mul_comm wgt]

/-- The kernel's select form of the sign. -/
theorem sign_form (g : EReal) :
    (if 0 < FloatOps.absf (F := Ideal) (φ := .f32) g then
      if g < 0 then Ideal.ofBits .f32 3212836864#32 else 1 else g) = Ideal.sign g := by
  rw [← Ideal.jnp_sign_eq_sign_f32 g]
  simp only [Scalar.select, Scalar.ofBits, FloatOps.cmpf, FloatOps.ofBits, Ideal.cmp, Ideal.ofBits_one_f32,
    Ideal.ofBits_zero_f32]
  by_cases h : 0 < FloatOps.absf (F := Ideal) (φ := .f32) g <;> by_cases h' : g < 0 <;> simp [h, h']

theorem max_low (l : Fin 64 → EReal) : max low (Finset.univ.fold max low l) = Finset.univ.fold max low l :=
  max_eq_right ((Finset.le_fold_max low).2 (Or.inl le_rfl))

end Cert.Policy
-- ==== Proof.Block.lean ====
/- What a grid point writes: row by row the policy's result at the block's rows. -/
module

public import proofs.«01_k».proof.Proof.Column
public import proofs.«01_k».proof.Proof.Policy

@[expose] public section

set_option synthInstance.maxSize 4096
set_option maxRecDepth 16384

noncomputable section

namespace Cert.KernelIdeal.Entropy

open Idealize.ShloMosaic Idealize.ShloMosaic.TcCoe Idealize.SL.Sem Cert.KernelIdeal.Gen Cert.Elem Cert.Policy

theorem state_pay (v0 : Vec Ideal S512x5120 .f32) (v2 : Vec Ideal S512x1 .f32) (v5 : Vec Ideal S5120x512 .f32)
    (v12 : Vec Ideal S512x512 .f32) (r : Fin 512) (n : Fin 512) :
    k0_pay1065 v0 v2 v5 v12 (ix2 r n)
      = state (v2 (ix2 r 0)) (fun d => v0 (ix2 r d)) (fun d k => v5 (ix2 d k)) (fun k n => v12 (ix2 k n)) n := by
  pointwise [k0_pay1065]
  rfl

theorem mask_pay (v0 : Vec Ideal S512x5120 .f32) (v2 : Vec Ideal S512x1 .f32) (v5 : Vec Ideal S5120x512 .f32)
    (v12 : Vec Ideal S512x512 .f32) (v14 : Vec Ideal S512x128 .f32) (v16 : Vec Ideal S1x128 .f32) (r : Fin 512)
    (h : Fin 128) :
    k0_pay1066 v0 v2 v5 v12 v14 v16 (ix2 r h)
      = if 0 < pre (fun n => k0_pay1065 v0 v2 v5 v12 (ix2 r n)) (fun n h => v14 (ix2 n h)) (fun h => v16 (ix2 0 h)) h
        then 1 else 0 := by
  pointwise [k0_pay1066]
  unfold pre
  split
  · rename_i hp
    rw [decide_eq_true hp]
    show (((((BitVec.ofBool true).setWidth 32).toInt : ℤ) : ℝ) : EReal) = 1
    rw [show ((BitVec.ofBool true).setWidth 32).toInt = 1 by decide]
    norm_num
  · rename_i hp
    rw [decide_eq_false hp]
    show (((((BitVec.ofBool false).setWidth 32).toInt : ℤ) : ℝ) : EReal) = 0
    rw [show ((BitVec.ofBool false).setWidth 32).toInt = 0 by decide]
    norm_num

theorem weight_pay (v0 : Vec Ideal S128x64 .f32) (v2 : EReal) (h : Fin 128) :
    k0_pay1067 (F := Ideal) v0 v2 (ix2 0 h) = (∑ a, v0 (ix2 h a)) * v2 := by
  pointwise [k0_pay1067]

theorem probs_pay (v13 : Vec Ideal S512x512 .f32) (v23 : Vec Ideal S512x128 .f32) (v29 : Vec Ideal S1x128 .f32)
    (v32 : Vec Ideal S128x512 .f32) (v48 : Vec Ideal S512x128 .f32) (v50 : Vec Ideal S1x128 .f32)
    (v56 : Vec Ideal S128x64 .f32) (v58 : Vec Ideal S1x64 .f32) (r : Fin 512) (a : Fin 64) :
    k0_pay1068 v13 v23 v29 v32 v48 v50 v56 v58 (ix2 r a)
      = softmax (logit (adv (fun n => v13 (ix2 r n))
          (fun n => ∑ h, v23 (ix2 r h) * v29 (ix2 0 h) * v32 (ix2 h n)))
          (fun n h => v48 (ix2 n h)) (fun h => v50 (ix2 0 h)) (fun h a => v56 (ix2 h a)) (fun a => v58 (ix2 0 a))) a := by
  pointwise [k0_pay1068]
  simp only [sign_form]
  rfl

/-- The body's output block from its input blocks. -/
def blockOut (x0 : Vec Ideal S512x5120 .f32) (x1 : Vec Ideal S5120x512 .f32) (x2 : Vec Ideal S512x512 .f32)
    (x3 : Vec Ideal S512x128 .f32) (x4 : Vec Ideal S128x512 .f32) (x5 : Vec Ideal S1x128 .f32)
    (x6 : Vec Ideal S128x64 .f32) (x7 : Vec Ideal S1x64 .f32) (w : EReal) : Vec Ideal S512x64 .f32 :=
  k0_pay1068 (k0_pay1065 x0 (entCol x0) x1 x2) (k0_pay1066 x0 (entCol x0) x1 x2 x3 x5) (k0_pay1067 x6 w) x4 x3 x5 x6 x7

/-- The output block at an element, the fifth operand the fourth's transpose and the weight the mean's. -/
theorem blockOut_apply (x0 : Vec Ideal S512x5120 .f32) (x1 : Vec Ideal S5120x512 .f32) (x2 : Vec Ideal S512x512 .f32)
    (x3 : Vec Ideal S512x128 .f32) (x4 : Vec Ideal S128x512 .f32) (x5 : Vec Ideal S1x128 .f32)
    (x6 : Vec Ideal S128x64 .f32) (x7 : Vec Ideal S1x64 .f32) (w : EReal)
    (ht : ∀ h n, x4 (ix2 h n) = x3 (ix2 n h)) (hw : w = wgt) (r : Fin 512) (a : Fin 64) :
    blockOut x0 x1 x2 x3 x4 x5 x6 x7 w (ix2 r a)
      = probs (entRow (blockRow x0 r)) (blockRow x0 r) (fun d k => x1 (ix2 d k)) (fun k n => x2 (ix2 k n))
          (fun n h => x3 (ix2 n h)) (fun h => x5 (ix2 0 h)) (fun h a => x6 (ix2 h a)) (fun a => x7 (ix2 0 a)) a := by
  subst hw
  unfold blockOut probs
  rw [probs_pay]
  simp only [mask_pay, weight_pay, state_pay, ht]
  unfold grad
  simp only [sum_wgt, ite_mul, one_mul, zero_mul]
  rfl

theorem column_read (c : Dev nD) (i : grid0.Coords) (arg1 : Memref sig .tc .vmem S512x5120 .f32) (harg1 : arg1.IsWhole) (arg2 : Memref sig .tc .vmem S5120x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S128x512 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .smem S1 .f32) (harg9 : arg9.IsWhole) (arg10 : Memref sig .tc .vmem S512x64 .f32) (harg10 : arg10.IsWhole) (arg11 : Memref sig .tc .vmem S512x1 .f32) (harg11 : arg11.IsWhole)
    (x0 : Vec Ideal S512x5120 .f32) :
    arg11.view.readCov (pb_k0_t1 (F := Ideal) Variants.none c none i arg1 harg1 arg2 harg2 arg3 harg3 arg4 harg4 arg5 harg5 arg6 harg6 arg7 harg7 arg8 harg8 arg9 harg9 arg10 harg10 arg11 harg11 (harg1.unread x0)
      (Scf.trips (0#32) (Scalar.addi 0#32 64#32) 1#32)) (Rect.unit (s := S512x1) ![0, 0] S512x1.size inb_S512x1_S512x1_0_0).toLoadRect
      = entCol x0 := by
  rw [View.readCov_eq_canon']
  have h := column_eq c i arg1 harg1 arg2 harg2 arg3 harg3 arg4 harg4 arg5 harg5 arg6 harg6 arg7 harg7 arg8 harg8 arg9 harg9 arg10 harg10 arg11 harg11 x0
  refine (congrArg (fun G : S512x1.Idx → Elt Ideal .f32 => fun j => G ((Rect.unit (s := S512x1) ![0, 0] S512x1.size inb_S512x1_S512x1_0_0).toLoadRect.idx j)) h).trans ?_
  exact View.ld_unit_lit (Val := Elt Ideal) (e := .f32) (S := S512x1) inb_S512x1_S512x1_0_0 (entCol x0) (by decide)

theorem out_eq (c : Dev nD) (i : grid0.Coords) (arg1 : Memref sig .tc .vmem S512x5120 .f32) (harg1 : arg1.IsWhole) (arg2 : Memref sig .tc .vmem S5120x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S128x512 .f32) (harg5 : arg5.IsWhole) (arg6 : Memref sig .tc .vmem S1x128 .f32) (harg6 : arg6.IsWhole) (arg7 : Memref sig .tc .vmem S128x64 .f32) (harg7 : arg7.IsWhole) (arg8 : Memref sig .tc .vmem S1x64 .f32) (harg8 : arg8.IsWhole) (arg9 : Memref sig .tc .smem S1 .f32) (harg9 : arg9.IsWhole) (arg10 : Memref sig .tc .vmem S512x64 .f32) (harg10 : arg10.IsWhole) (arg11 : Memref sig .tc .vmem S512x1 .f32) (harg11 : arg11.IsWhole)
    (x0 : Vec Ideal S512x5120 .f32) (x1 : Vec Ideal S5120x512 .f32) (x2 : Vec Ideal S512x512 .f32) (x3 : Vec Ideal S512x128 .f32) (x4 : Vec Ideal S128x512 .f32) (x5 : Vec Ideal S1x128 .f32) (x6 : Vec Ideal S128x64 .f32) (x7 : Vec Ideal S1x64 .f32) (x8 : Vec Ideal S1 .f32) :
    out0_A_9 c i arg1 harg1 arg2 harg2 arg3 harg3 arg4 harg4 arg5 harg5 arg6 harg6 arg7 harg7 arg8 harg8 arg9 harg9 arg10 harg10 arg11 harg11 x0 x1 x2 x3 x4 x5 x6 x7 x8
      = blockOut x0 x1 x2 x3 x4 x5 x6 x7 (x8 (ix1 0)) := by
  frame_out
  have h := column_read c i arg1 harg1 arg2 harg2 arg3 harg3 arg4 harg4 arg5 harg5 arg6 harg6 arg7 harg7 arg8 harg8 arg9 harg9 arg10 harg10 arg11 harg11 x0
  refine (congrArg₂ (fun C w => k0_pay1068 (k0_pay1065 x0 C x1 x2) (k0_pay1066 x0 C x1 x2 x3 x5) (k0_pay1067 x6 w)
    x4 x3 x5 x6 x7) h ?_)
  refine congrArg x8 ?_
  funext a
  obtain rfl : a = 0 := Subsingleton.elim (α := Fin 1) _ _
  exact Subsingleton.elim (α := Fin 1) _ _

end Cert.KernelIdeal.Entropy
-- ==== Proof.Final.lean ====
/- The kernel's result array: every row's result from the arguments. -/
module

public import proofs.«01_k».proof.Proof.Block
public import proofs.«01_k».proof.Proof.Gen.KernelIdeal.Value
public import Idealize.ShloMosaic.Lib.Pipeline.ValueKit

@[expose] public section

set_option synthInstance.maxSize 4096
set_option maxRecDepth 16384

noncomputable section

namespace Cert.KernelIdeal.Entropy

open Idealize.ShloMosaic Idealize.ShloMosaic.TcCoe Idealize.SL.Sem Cert.KernelIdeal.Gen Cert.Elem Cert.Policy

variable (m : (ℓ : Loc nD τ sig) → Buf (Elt Ideal) ℓ)

/-- Row `r` of grid point `t`'s block. -/
def gridRow (t : Fin cfg0.N) (r : Fin 512) : Fin 16384 :=
  ⟨512 * t.val + r.val, by have h : t.val < 32 := t.isLt; omega⟩

theorem row_index : ∀ t : Fin cfg0.N, win0_0.index t 0 = t.val ∧ win0_0.index t 1 = 0 := by decide +kernel

theorem whole_index : ∀ t : Fin cfg0.N, (∀ a, win0_1.index t a = 0) ∧ (∀ a, win0_2.index t a = 0)
    ∧ (∀ a, win0_3.index t a = 0) ∧ (∀ a, win0_4.index t a = 0) ∧ (∀ a, win0_5.index t a = 0)
    ∧ (∀ a, win0_6.index t a = 0) ∧ (∀ a, win0_7.index t a = 0) := by decide +kernel

theorem blk0 (c : Dev nD) (t : Fin cfg0.N) (r : Fin 512) (d : Fin 5120) :
    iblk m c 0 t (ix2 r d) = m ((c.tc : Thread nD τ).loc main_arg0) (ix2 (gridRow t r) d) := by
  obtain ⟨e, e'⟩ := row_index t
  blk_ext [iblk, V, gridRow, e, e']

theorem blk1 (c : Dev nD) (t : Fin cfg0.N) (d : Fin 5120) (k : Fin 512) :
    iblk m c 1 t (ix2 d k) = m ((c.tc : Thread nD τ).loc main_arg1) (ix2 k d) := by
  obtain ⟨e, _, _, _, _, _, _⟩ := whole_index t
  blk_ext! [iblk, V, e]

theorem blk2 (c : Dev nD) (t : Fin cfg0.N) (k : Fin 512) (n : Fin 512) :
    iblk m c 2 t (ix2 k n) = m ((c.tc : Thread nD τ).loc main_arg2) (ix2 k n) := by
  obtain ⟨_, e, _, _, _, _, _⟩ := whole_index t
  blk_ext! [iblk, V, e]

theorem blk3 (c : Dev nD) (t : Fin cfg0.N) (n : Fin 512) (h : Fin 128) :
    iblk m c 3 t (ix2 n h) = m ((c.tc : Thread nD τ).loc main_arg3) (ix2 n h) := by
  obtain ⟨_, _, e, _, _, _, _⟩ := whole_index t
  blk_ext! [iblk, V, e]

theorem blk4 (c : Dev nD) (t : Fin cfg0.N) (n : Fin 512) (h : Fin 128) :
    iblk m c 4 t (ix2 h n) = m ((c.tc : Thread nD τ).loc main_arg3) (ix2 n h) := by
  obtain ⟨_, _, _, e, _, _, _⟩ := whole_index t
  blk_ext! [iblk, V, e]

theorem blk5 (c : Dev nD) (t : Fin cfg0.N) (h : Fin 128) :
    iblk m c 5 t (ix2 0 h) = m ((c.tc : Thread nD τ).loc main_arg4) (ix1 h) := by
  obtain ⟨_, _, _, _, e, _, _⟩ := whole_index t
  blk_ext! [iblk, V, e]

theorem blk6 (c : Dev nD) (t : Fin cfg0.N) (h : Fin 128) (a : Fin 64) :
    iblk m c 6 t (ix2 h a) = m ((c.tc : Thread nD τ).loc main_arg5) (ix2 h a) := by
  obtain ⟨_, _, _, _, _, e, _⟩ := whole_index t
  blk_ext! [iblk, V, e]

theorem blk7 (c : Dev nD) (t : Fin cfg0.N) (a : Fin 64) :
    iblk m c 7 t (ix2 0 a) = m ((c.tc : Thread nD τ).loc main_arg6) (ix1 a) := by
  obtain ⟨_, _, _, _, _, _, e⟩ := whole_index t
  blk_ext! [iblk, V, e]

theorem blk8 (c : Dev nD) (t : Fin cfg0.N) :
    iblk m c 8 t (ix1 0) = wgt := by
  have h : V m c main_v4 = fun _ => wgt := by
    rw [← wgt_eq]
    entry_read
    rfl
  exact congrFun h (((cfg0.win 8).blk t).view.emb (ix1 0))

/-- The result array as a function of the arguments. -/
def result (c : Dev nD) : Vec Ideal S16384x64 .f32 := fun i =>
  probs (entRow fun d => m ((c.tc : Thread nD τ).loc main_arg0) (ix2 (i 0) d))
    (fun d => m ((c.tc : Thread nD τ).loc main_arg0) (ix2 (i 0) d))
    (fun d k => m ((c.tc : Thread nD τ).loc main_arg1) (ix2 k d))
    (fun k n => m ((c.tc : Thread nD τ).loc main_arg2) (ix2 k n))
    (fun n h => m ((c.tc : Thread nD τ).loc main_arg3) (ix2 n h))
    (fun h => m ((c.tc : Thread nD τ).loc main_arg4) (ix1 h))
    (fun h a => m ((c.tc : Thread nD τ).loc main_arg5) (ix2 h a))
    (fun a => m ((c.tc : Thread nD τ).loc main_arg6) (ix1 a)) (i 1)

theorem outs_apply (c : Dev nD) (t : Fin cfg0.N) (r : Fin 512) (a : Fin 64) :
    outsAt0 m c t (ix2 r a) = result m c (ix2 (gridRow t r) a) := by
  unfold outsAt0 result
  rw [out_eq, blockOut_apply _ _ _ _ _ _ _ _ _ (fun h n => (blk4 m c t n h).trans (blk3 m c t n h).symm) (blk8 m c t)]
  unfold blockRow
  simp only [blk0, blk1, blk2, blk3, blk5, blk6, blk7]
  rfl

theorem out_index : ∀ t : Fin cfg0.N, win0_9.index t 0 = t.val ∧ win0_9.index t 1 = 0 := by decide +kernel

theorem final9 (c : Dev nD) : (dats m 0 c).arrAt 9 cfg0.N = result m c := by
  refine (dats m 0 c).arrAt_eq_of_covers 9 _ (by decide +kernel) fun t hf y => ?_
  idx_vars y
  blk_simp
  rw [after0_9]
  refine (outs_apply m c t _ _).trans ?_
  obtain ⟨e, e'⟩ := out_index t
  blk_ext [gridRow, e, e']

end Cert.KernelIdeal.Entropy
-- ==== Proof.Hist.lean ====
/- The reference's histogram and entropy at a row: the accumulating scatter adds each element's one to
   the entry of its row and bin, so an entry is the number of the row's elements in the bin. -/
module

public import proofs.«01_k».proof.Proof.Gen.ReferenceIdeal.Read
public import proofs.«01_k».proof.Proof.Elem
public import Idealize.ShloMosaic.Lib.Routing.OpsPair

@[expose] public section

set_option synthInstance.maxSize 4096

noncomputable section

namespace Cert.ReferenceIdeal.Hist

open Idealize.ShloMosaic Idealize.ShloMosaic.ValueIdx Idealize.SL.Sem
open Cert.ReferenceIdeal Cert.ReferenceIdeal.Gen Cert.ReferenceIdeal.Read Cert.Elem

/-- An update lands at an entry exactly when its index word is the entry's number. -/
theorem lands (idx : IVec S83886080x1 32) (i : Fin 83886080) (x : Fin 1638400) :
    scatter_S1638400_S83886080x1_S83886080_n_0_0_1.resultIdx? (ix1 i) idx = some (ix1 x)
      ↔ (idx (ix2 i (0 : Fin 1))).toInt = (x.val : ℤ) := by
  refine (Routing.resultIdx?_ix1 _ (ix1 i) idx x).trans ?_
  have hw : scatter_S1638400_S83886080x1_S83886080_n_0_0_1.window (ix1 i) 0 = 0 := by
    unfold ScatterDims.window
    exact dif_neg (by decide)
  have hs : scatter_S1638400_S83886080x1_S83886080_n_0_0_1.start (ix1 i) idx 0
      = (idx (ix2 i (0 : Fin 1))).toInt := by
    unfold ScatterDims.start
    rw [dif_pos (by decide)]
    refine congrArg (fun j => (idx j).toInt) (funext fun a => Fin.ext ?_)
    match a with
    | ⟨0, _⟩ => rfl
    | ⟨1, _⟩ => rfl
  rw [hw, hs]
  simp

/-- A row of the events. -/
def row (x0 : FVec Ideal S16384x5120 .f32) (R : Fin 16384) : Fin 5120 → EReal := fun d => x0 (ix2 R d)

theorem v7_at (x0 : FVec Ideal S16384x5120 .f32) (R : Fin 16384) (d : Fin 5120) :
    val_main_v7 (F := Ideal) x0 (ix2 R d) = binR (row x0 R d) := rfl

theorem v12_at (x0 : FVec Ideal S16384x5120 .f32) (R : Fin 16384) (d : Fin 5120) :
    val_main_v12 (F := Ideal) x0 (ix2 R d) = inRef (row x0 R d) := rfl

theorem v13_at (x0 : FVec Ideal S16384x5120 .f32) (R : Fin 16384) (d : Fin 5120) :
    val_main_v13 (F := Ideal) x0 (ix2 R d) = ((if inR (row x0 R d) = 1#1 then 1 else 0 : ℕ) : EReal) := by
  rw [val_main_v13_apply, v12_at, inRef_eq]
  show (((inR (row x0 R d)).toNat : ℝ) : EReal) = _
  have h : ∀ b : BitVec 1, b.toNat = if b = 1#1 then 1 else 0 := by decide
  rw [h]
  norm_cast

theorem v19_at (x0 : FVec Ideal S16384x5120 .f32) (R : Fin 16384) (d : Fin 5120) :
    (val_main_v19 (F := Ideal) x0 (ix2 R d)).toInt = (((binR (row x0 R d)).toNat + 100 * R.val : ℕ) : ℤ) := by
  have h18 : val_main_v18 (F := Ideal) (ix2 R d) = IntOp.muli 100#32 (BitVec.ofNat 32 R.val) := rfl
  have hb := binR_lt (row x0 R d)
  have hR := R.isLt
  rw [val_main_v19_apply, v7_at, h18]
  have e : (IntOp.addi (binR (row x0 R d)) (IntOp.muli 100#32 (BitVec.ofNat 32 R.val))).toNat
      = (binR (row x0 R d)).toNat + 100 * R.val := by
    unfold IntOp.addi IntOp.muli
    rw [BitVec.toNat_add, BitVec.toNat_mul, BitVec.toNat_ofNat, BitVec.toNat_ofNat]
    omega
  rw [BitVec.toInt_eq_toNat_cond, e, if_pos (by omega)]

/-- The flat positions are the pairs of a row and a column. -/
def flat : Fin 16384 × Fin 5120 ≃ Fin 83886080 := finProdFinEquiv (m := 16384) (n := 5120)

theorem flat_val (p : Fin 16384 × Fin 5120) : (flat p).val = p.2.val + 5120 * p.1.val := rfl

theorem idx20_flat (p : Fin 16384 × Fin 5120) : idx_main_v20 (ix1 (flat p)) = ix2 p.1 p.2 := by
  have h := p.2.isLt
  funext a
  apply Fin.ext
  match a with
  | ⟨0, _⟩ => show (flat p).val / 5120 = p.1.val; rw [flat_val]; omega
  | ⟨1, _⟩ => show (flat p).val % 5120 = p.2.val; rw [flat_val]; omega

theorem v23_flat (x0 : FVec Ideal S16384x5120 .f32) (p : Fin 16384 × Fin 5120) :
    val_main_v23 (F := Ideal) x0 (ix2 (flat p) (0 : Fin 1)) = val_main_v19 (F := Ideal) x0 (ix2 p.1 p.2) := by
  rw [val_main_v23_apply, val_main_v20_apply, ← idx20_flat]

theorem v21_flat (x0 : FVec Ideal S16384x5120 .f32) (p : Fin 16384 × Fin 5120) :
    val_main_v21 (F := Ideal) x0 (ix1 (flat p)) = val_main_v13 (F := Ideal) x0 (ix2 p.1 p.2) := by
  rw [val_main_v21_apply, ← idx20_flat]

/-- The entry of a row and a bin. -/
def entry (R : Fin 16384) (b : Fin 100) : Fin 1638400 := ⟨R.val * 100 + b.val, by omega⟩

/-- An accumulating scatter at an entry. -/
theorem scatterAdd_at {s si su : Shape} (d : ScatterDims s si su) (x : FVec Ideal s .f32) (idx : IVec si 32)
    (upd : FVec Ideal su .f32) (i : s.Idx) :
    Host.scatterAdd d x idx upd i
      = x i + ∑ j ∈ Finset.univ.filter (fun j => d.resultIdx? j idx = some i), upd j := rfl

/-- A sum over a vector's positions. -/
theorem sum_vec {n : ℕ} (f : (⟨1, ![n]⟩ : Shape).Idx → EReal) : ∑ j, f j = ∑ k : Fin n, f (ix1 k) :=
  (Equiv.sum_comp (⟨fun k => ix1 k, fun j => j 0, fun _ => rfl, fun j => (eq_ix1 j).symm⟩ :
    Fin n ≃ (⟨1, ![n]⟩ : Shape).Idx) f).symm

/-- A histogram entry is the row's count of the bin. -/
theorem v24_entry (x0 : FVec Ideal S16384x5120 .f32) (R : Fin 16384) (b : Fin 100) :
    val_main_v24 (F := Ideal) x0 (ix1 (entry R b)) = (cntRow (row x0 R) b.val : EReal) := by
  have e22 : val_main_v22 (F := Ideal) (ix1 (entry R b)) = 0 := by
    rw [val_main_v22_apply]
    exact Ideal.ofBits_zero_f32
  unfold val_main_v24
  rw [scatterAdd_at, e22, zero_add, Finset.sum_filter, sum_vec, ← Equiv.sum_comp flat, Fintype.sum_prod_type]
  have hterm : ∀ (a : Fin 16384) (d : Fin 5120),
      (if scatter_S1638400_S83886080x1_S83886080_n_0_0_1.resultIdx? (ix1 (flat (a, d)))
          (val_main_v23 (F := Ideal) x0) = some (ix1 (entry R b))
        then val_main_v21 (F := Ideal) x0 (ix1 (flat (a, d))) else 0)
      = if a = R then (((if (binR (row x0 R d)).toNat = b.val then (if inR (row x0 R d) = 1#1 then 1 else 0) else 0 : ℕ)) : EReal)
        else 0 := by
    intro a d
    have hl := lands (val_main_v23 (F := Ideal) x0) (flat (a, d)) (entry R b)
    rw [v23_flat, v19_at] at hl
    have hb := binR_lt (row x0 a d)
    have hl' : scatter_S1638400_S83886080x1_S83886080_n_0_0_1.resultIdx? (ix1 (flat (a, d)))
          (val_main_v23 (F := Ideal) x0) = some (ix1 (entry R b))
        ↔ a = R ∧ (binR (row x0 a d)).toNat = b.val := by
      refine hl.trans ?_
      show (((binR (row x0 a d)).toNat + 100 * a.val : ℕ) : ℤ) = ((R.val * 100 + b.val : ℕ) : ℤ) ↔ _
      rw [Fin.ext_iff]
      have := b.isLt
      omega
    rw [v21_flat, v13_at]
    by_cases ha : a = R
    · subst ha
      rw [if_pos rfl]
      by_cases hbin : (binR (row x0 a d)).toNat = b.val
      · rw [if_pos (hl'.2 ⟨rfl, hbin⟩), if_pos hbin]
      · rw [if_neg (fun h => hbin (hl'.1 h).2), if_neg hbin]; simp
    · rw [if_neg (fun h => ha (hl'.1 h).1), if_neg ha]
  rw [Finset.sum_congr rfl fun a _ => Finset.sum_congr rfl fun d _ => hterm a d,
    Finset.sum_eq_single R (fun a _ ha => Finset.sum_eq_zero fun d _ => if_neg ha)
      (fun h => absurd (Finset.mem_univ _) h),
    cntRow_ref _ (by omega), Nat.cast_sum]
  exact Finset.sum_congr rfl fun d _ => if_pos rfl

theorem v25_at (x0 : FVec Ideal S16384x5120 .f32) (R : Fin 16384) (b : Fin 100) :
    val_main_v25 (F := Ideal) x0 (ix2 R b) = (cntRow (row x0 R) b.val : EReal) := by
  rw [val_main_v25_apply, ← v24_entry]
  congr 1
  funext a
  match a with
  | ⟨0, _⟩ => rfl

theorem v26_at (x0 : FVec Ideal S16384x5120 .f32) (R : Fin 16384) :
    val_main_v26 (F := Ideal) x0 (ix1 R) = (vRow (row x0 R) : EReal) := by
  rw [val_main_v26_apply, ← sum_cntRow, Finset.sum_range, Nat.cast_sum]
  have e : val_main_cst_7 (F := Ideal) (Shape.Idx.first h_S_) = 0 := Ideal.ofBits_zero_f32
  rw [e, zero_add]
  refine Finset.sum_congr rfl fun b _ => ?_
  rw [← v25_at]
  congr 1
  funext a
  match a with
  | ⟨0, _⟩ => rfl
  | ⟨1, _⟩ => rfl

/-- The reference's entropy of a row. -/
theorem v37_at (x0 : FVec Ideal S16384x5120 .f32) (R : Fin 16384) :
    val_main_v37 (F := Ideal) x0 (ix1 R) = entRow (row x0 R) := by
  have h31 : ∀ b : Fin 100, val_main_v31 (F := Ideal) x0 (ix2 R b)
      = Ideal.div (cntRow (row x0 R) b.val : EReal) ((vRow (row x0 R) : EReal) + eps) := by
    intro b
    rw [← v25_at, ← v26_at]
    have e : val_main_v26 (F := Ideal) x0 (ix1 R)
        = val_main_v26 (F := Ideal) x0 (idx_main_v27 (idx_main_v30 (ix2 R b))) := by
      congr 1
      funext a
      match a with
      | ⟨0, _⟩ => rfl
    rw [val_main_v31_apply, val_main_v30_apply, val_main_v29_apply, val_main_v27_apply, e]
    rfl
  have h35 : ∀ b : Fin 100, val_main_v35 (F := Ideal) x0 (idx_main_v36 (ix1 R) b)
      = Ideal.div (cntRow (row x0 R) b.val : EReal) ((vRow (row x0 R) : EReal) + eps)
        * Ideal.log (Ideal.div (cntRow (row x0 R) b.val : EReal) ((vRow (row x0 R) : EReal) + eps) + eps) := by
    intro b
    have e : idx_main_v36 (ix1 R) b = ix2 R b := by
      funext a
      match a with
      | ⟨0, _⟩ => rfl
      | ⟨1, _⟩ => rfl
    rw [e, val_main_v35_apply, val_main_v34_apply, val_main_v33_apply, h31]
    rfl
  rw [val_main_v37_apply, val_main_v36_apply, Finset.sum_congr rfl fun b _ => h35 b, entRow_eq]
  show -(Ideal.ofBits .f32 0#32 + _) = _
  rw [Ideal.ofBits_zero_f32, zero_add]

end Cert.ReferenceIdeal.Hist
-- ==== Proof.RefValue.lean ====
/- The reference's result: row by row the policy's result at the row's entropy. -/
module

public import proofs.«01_k».proof.Proof.Hist
public import proofs.«01_k».proof.Proof.Policy
public import Idealize.ShloMosaic.Lib.Pointwise
public import Idealize.ShloMosaic.Lib.Pointwise.IndexBridge

@[expose] public section

set_option synthInstance.maxSize 4096
set_option maxRecDepth 16384

noncomputable section

namespace Cert.ReferenceIdeal.RefValue

open Idealize.ShloMosaic Idealize.ShloMosaic.TcCoe Idealize.SL.Sem Cert.ReferenceIdeal Cert.ReferenceIdeal.Gen
open Cert.ReferenceIdeal.Read Cert.Elem Cert.Policy

variable (x0 : FVec Ideal S16384x5120 .f32) (x1 : FVec Ideal S512x5120 .f32) (x2 : FVec Ideal S512x512 .f32)
  (x3 : FVec Ideal S512x128 .f32) (x4 : FVec Ideal S128 .f32) (x5 : FVec Ideal S128x64 .f32) (x6 : FVec Ideal S64 .f32)

theorem state_at (R : Fin 16384) (n : Fin 512) :
    val_main_v44 (F := Ideal) x0 x1 x2 (ix2 R n)
      = state (val_main_v37 (F := Ideal) x0 (ix1 R)) (fun d => x0 (ix2 R d)) (fun d k => x1 (ix2 k d))
          (fun k n => x2 (ix2 k n)) n := by
  unfold val_main_v44 val_main_v43 val_main_call1_v0 val_main_call1_v1 val_main_v42 val_main_v39 val_main_v38
    val_main_cst_11 val_main_v41 val_main_v40 val_main_cst_12
  generalize val_main_v37 (F := Ideal) x0 = y0
  pointwise []
  rfl

theorem pre_at (R : Fin 16384) (h : Fin 128) :
    val_main_v48 (F := Ideal) x0 x1 x2 x3 x4 (ix2 R h)
      = pre (fun n => val_main_v44 (F := Ideal) x0 x1 x2 (ix2 R n)) (fun n h => x3 (ix2 n h)) (fun h => x4 (ix1 h)) h := by
  unfold val_main_v48 val_main_v47 val_main_v46 val_main_v45
  generalize val_main_v44 (F := Ideal) x0 x1 x2 = y0
  pointwise []
  rfl

theorem grad_at (R : Fin 16384) (n : Fin 512) :
    val_main_v64 (F := Ideal) x0 x1 x2 x3 x4 x5 (ix2 R n)
      = grad (fun n => val_main_v44 (F := Ideal) x0 x1 x2 (ix2 R n)) (fun n h => x3 (ix2 n h)) (fun h => x4 (ix1 h))
          (fun h a => x5 (ix2 h a)) n := by
  unfold grad
  simp only [← pre_at]
  unfold val_main_v64 val_main_v63 val_main_v62 val_main_cst_19 val_main_v61 val_main_v60 val_main_v59
    val_main_cst_17 val_main_cst_18 val_main_v51 val_main_v50 val_main_cst_13 wgt
  generalize val_main_v48 (F := Ideal) x0 x1 x2 x3 x4 = y0
  pointwise []

theorem adv_at (R : Fin 16384) (n : Fin 512) :
    val_main_v68 (F := Ideal) x0 x1 x2 x3 x4 x5 (ix2 R n)
      = adv (fun n => val_main_v44 (F := Ideal) x0 x1 x2 (ix2 R n))
          (fun n => val_main_v64 (F := Ideal) x0 x1 x2 x3 x4 x5 (ix2 R n)) n := by
  unfold val_main_v68 val_main_v67 val_main_v66 val_main_v65 val_main_cst_20
  generalize val_main_v64 (F := Ideal) x0 x1 x2 x3 x4 x5 = y0
  generalize val_main_v44 (F := Ideal) x0 x1 x2 = y1
  pointwise []
  rfl

theorem logit_at (R : Fin 16384) (a : Fin 64) :
    val_main_v77 (F := Ideal) x0 x1 x2 x3 x4 x5 x6 (ix2 R a)
      = logit (fun n => val_main_v68 (F := Ideal) x0 x1 x2 x3 x4 x5 (ix2 R n)) (fun n h => x3 (ix2 n h))
          (fun h => x4 (ix1 h)) (fun h a => x5 (ix2 h a)) (fun a => x6 (ix1 a)) a := by
  unfold val_main_v77 val_main_v76 val_main_v75 val_main_v74 val_main_v73 val_main_call3_v0
    val_main_call3_cst val_main_v72 val_main_v71 val_main_v70 val_main_v69
  generalize val_main_v68 (F := Ideal) x0 x1 x2 x3 x4 x5 = y0
  pointwise []
  rfl

theorem max_at (R : Fin 16384) :
    val_main_v80 (F := Ideal) x0 x1 x2 x3 x4 x5 x6 (ix1 R)
      = Finset.univ.fold max low fun a => val_main_v77 (F := Ideal) x0 x1 x2 x3 x4 x5 x6 (ix2 R a) := by
  rw [← max_low]
  unfold val_main_v80 val_main_v79 val_main_v78 val_main_cst_21 val_main_cst_22
  generalize val_main_v77 (F := Ideal) x0 x1 x2 x3 x4 x5 x6 = y0
  pointwise []
  rfl

theorem softmax_at (R : Fin 16384) (a : Fin 64) :
    val_main_v88 (F := Ideal) x0 x1 x2 x3 x4 x5 x6 (ix2 R a)
      = softmax (fun a => val_main_v77 (F := Ideal) x0 x1 x2 x3 x4 x5 x6 (ix2 R a)) a := by
  unfold softmax
  rw [← max_at]
  unfold val_main_v88 val_main_v87 val_main_v86 val_main_v85 val_main_cst_23 val_main_v84 val_main_v83
    val_main_v82 val_main_v81
  generalize val_main_v80 (F := Ideal) x0 x1 x2 x3 x4 x5 x6 = y0
  generalize val_main_v77 (F := Ideal) x0 x1 x2 x3 x4 x5 x6 = y1
  pointwise []

/-- The reference's result at a row and an action. -/
theorem v88_at (R : Fin 16384) (a : Fin 64) :
    val_main_v88 (F := Ideal) x0 x1 x2 x3 x4 x5 x6 (ix2 R a)
      = probs (entRow fun d => x0 (ix2 R d)) (fun d => x0 (ix2 R d)) (fun d k => x1 (ix2 k d))
          (fun k n => x2 (ix2 k n)) (fun n h => x3 (ix2 n h)) (fun h => x4 (ix1 h)) (fun h a => x5 (ix2 h a))
          (fun a => x6 (ix1 a)) a := by
  have he : val_main_v37 (F := Ideal) x0 (ix1 R) = entRow fun d => x0 (ix2 R d) := by
    rw [ix1_eq_valueIdx, Hist.v37_at]
    simp only [ix2_eq_valueIdx]
    rfl
  unfold probs
  rw [← he, softmax_at]
  simp only [logit_at, adv_at, grad_at, state_at]

end Cert.ReferenceIdeal.RefValue
-- ==== Proof.Series.lean ====
/- The exponential's polynomial and its squarings, over nonnegative extended reals: a matrix of them carries each of
   the kernel's and the reference's vectors, and there the two agree as polynomials. -/
module

public import Idealize.ShloMosaic.Lib.Pointwise
public import Mathlib.Data.EReal.Operations
public import Mathlib.Data.Matrix.Mul
public import Mathlib.LinearAlgebra.Matrix.Trace
public import Mathlib.Data.Matrix.Basic
public import Mathlib.Tactic.Module

@[expose] public section

noncomputable section

namespace Cert.Series

open Idealize.ShloMosaic ENNReal

/-- A matrix of nonnegative extended reals. -/
abbrev Mx : Type := Matrix (Fin 512) (Fin 512) ℝ≥0∞

/-- The shape of such a matrix. -/
abbrev Sq : Shape := ⟨2, ![512, 512]⟩

/-- The vector `v` holds the matrix `M`. -/
def Rep (v : FVec Ideal Sq .f32) (M : Mx) : Prop := ∀ i j, v (ix2 i j) = ((M i j : ℝ≥0∞) : EReal)

/-- A sum of nonnegative extended reals, cast. -/
theorem coe_sum {ι : Type} (s : Finset ι) (f : ι → ℝ≥0∞) : ((∑ i ∈ s, f i : ℝ≥0∞) : EReal) = ∑ i ∈ s, (f i : EReal) := by
  classical
  induction s using Finset.induction_on with
  | empty => simp
  | insert a s ha ih => rw [Finset.sum_insert ha, Finset.sum_insert ha, EReal.coe_ennreal_add, ih]

/-- A square is nonnegative. -/
theorem mul_self (y : EReal) : 0 ≤ y * y := by
  rcases le_total 0 y with h | h
  · exact mul_nonneg h h
  · rw [← neg_mul_neg]
    exact mul_nonneg (EReal.neg_nonneg.2 h) (EReal.neg_nonneg.2 h)

/-- The constant a bit pattern denotes, of a nonnegative one. -/
def lit (b : BitVec 32) : ℝ≥0∞ := (Ideal.ofBits .f32 b).toENNReal

theorem lit_coe {b : BitVec 32} (h : 0 ≤ Ideal.ofBits .f32 b) : ((lit b : ℝ≥0∞) : EReal) = Ideal.ofBits .f32 b :=
  EReal.coe_toENNReal h

/-- A bit pattern whose sign bit is clear and whose exponent is not all ones denotes a nonnegative number. -/
theorem lit_nonneg {b : BitVec 32} (hs : b.extractLsb' 31 1 = 0#1)
    (he : (b.extractLsb' 23 8).toNat ≠ 255) : 0 ≤ Ideal.ofBits .f32 b := by
  unfold Ideal.ofBits Ideal.ieee
  simp only [hs, he, Nat.reduceAdd, Nat.reducePow, Nat.reduceSub, if_false]
  split <;> exact EReal.coe_nonneg.2 (by simp only [reduceCtorEq, BitVec.reduceBEq, Bool.false_eq_true, if_false]; positivity)

/-- The scaled entrywise square of the adjacency. -/
def base (x : FVec Ideal Sq .f32) : Mx := fun i j => (x (ix2 i j) * x (ix2 i j)).toENNReal * lit 0x3D000000#32

section Algebra

variable {A : Type} [Semiring A] [Algebra ℝ≥0∞ A]

/-- The kernel's polynomial without its constant term, by Horner's rule. -/
def horner (c2 c3 c4 c5 c6 : ℝ≥0∞) (T : A) : A :=
  T * (1 + c2 • (T * (1 + c3 • (T * (1 + c4 • (T * (1 + c5 • (T * (1 + c6 • T)))))))))

/-- The reference's `k`-th term from the one before. -/
def next (c : ℝ≥0∞) (T u : A) : A := c • (u * T)

/-- The reference's polynomial, term by term. -/
def taylor (c2 c3 c4 c5 c6 : ℝ≥0∞) (T : A) : A :=
  1 + T + next c2 T T + next c3 T (next c2 T T) + next c4 T (next c3 T (next c2 T T))
    + next c5 T (next c4 T (next c3 T (next c2 T T))) + next c6 T (next c5 T (next c4 T (next c3 T (next c2 T T))))

theorem one_add_horner (c2 c3 c4 c5 c6 : ℝ≥0∞) (T : A) : 1 + horner c2 c3 c4 c5 c6 T = taylor c2 c3 c4 c5 c6 T := by
  unfold horner taylor next
  simp only [mul_add, smul_add, mul_smul_comm, smul_mul_assoc, smul_smul, mul_one, mul_assoc, add_assoc]
  module

/-- The kernel's squaring step: of the exponential less one. -/
def step (e : A) : A := (2 : ℝ≥0∞) • e + e * e

theorem one_add_step (e : A) : 1 + step e = (1 + e) * (1 + e) := by
  unfold step
  simp only [mul_add, add_mul, one_mul, mul_one, two_smul]
  abel

/-- Five squaring steps. -/
theorem one_add_steps (e : A) : 1 + step^[5] e = (fun p : A => p * p)^[5] (1 + e) :=
  (Function.Semiconj.iterate_right (f := fun e : A => 1 + e) (fun e => one_add_step e) 5).eq e

end Algebra

/-- The exponential's polynomial less the identity, squared five times, as the kernel has it. -/
def expm1 (x : FVec Ideal Sq .f32) : Mx := step^[5] (horner (lit 0x3F000000#32)
  (lit 0x3EAAAAAB#32) (lit 0x3E800000#32) (lit 0x3E4CCCCD#32) (lit 0x3E2AAAAB#32) (base x))

/-- The exponential's polynomial, squared five times, as the reference has it. -/
def expm (x : FVec Ideal Sq .f32) : Mx := (fun p : Mx => p * p)^[5] (taylor (lit 0x3F000000#32)
  (lit 0x3EAAAAAB#32) (lit 0x3E800000#32) (lit 0x3E4CCCCD#32) (lit 0x3E2AAAAB#32) (base x))

theorem one_add_expm1 (x : FVec Ideal Sq .f32) : 1 + expm1 x = expm x := by
  unfold expm1 expm
  rw [one_add_steps, one_add_horner]

/-- The trace of the exponential, less the order: the trace of the exponential less the identity. -/
theorem trace_sub (x : FVec Ideal Sq .f32) :
    ((∑ i, expm x i i : ℝ≥0∞) : EReal) - ((512 : ℝ) : EReal) = ((∑ i, expm1 x i i : ℝ≥0∞) : EReal) := by
  have h : ∑ i, expm x i i = 512 + ∑ i, expm1 x i i := by
    rw [← one_add_expm1]
    simp [Matrix.add_apply, Finset.sum_add_distrib]
  rw [h]
  generalize ∑ i, expm1 x i i = y
  cases y with
  | top => simp
  | coe r =>
    have e : ((512 + (r : ℝ≥0∞) : ℝ≥0∞) : EReal) = ((512 + (r : ℝ) : ℝ) : EReal) := by
      push_cast; rfl
    rw [e, ← EReal.coe_sub, add_sub_cancel_left]
    rfl

end Cert.Series
-- ==== Proof.ExpmValue.lean ====
/- The kernel's trace: the trace of the exponential's polynomial less the identity. -/
module

public import proofs.«01_k».proof.Proof.Series
public import proofs.«01_k».proof.Proof.Gen.KernelExpmIdeal.Value
public import Idealize.ShloMosaic.Lib.Pointwise

@[expose] public section

set_option synthInstance.maxSize 4096
set_option maxRecDepth 16384

noncomputable section

namespace Cert.KernelExpmIdeal.Trace

open Idealize.ShloMosaic Cert.KernelExpmIdeal Cert.KernelExpmIdeal.Gen Cert.Series ENNReal

/-- The kernel's matrix product. -/
def prod (v w : FVec Ideal S512x512 .f32) : FVec Ideal S512x512 .f32 :=
  matmul dot_S512x512_S512x512_S512x512_1_0_0_1_n_n (some .fp32) v w (constant S512x512 .f32 0x00000000#32)

/-- A vector times a constant. -/
def scale (v : FVec Ideal S512x512 .f32) (b : BitVec 32) : FVec Ideal S512x512 .f32 :=
  mulf v (broadcast S512x512 (Scalar.ofBits .f32 b))

/-- One step of Horner's rule. -/
def hornerStep (t p : FVec Ideal S512x512 .f32) (b : BitVec 32) : FVec Ideal S512x512 .f32 :=
  addf (k0_pay2 (F := Ideal)) (scale (prod t p) b)

/-- One squaring step. -/
def sqStep (e : FVec Ideal S512x512 .f32) : FVec Ideal S512x512 .f32 :=
  addf (mulf (broadcast S512x512 (Scalar.ofBits .f32 0x40000000#32)) e) (prod e e)

/-- The scaled square. -/
def sq (x : FVec Ideal S512x512 .f32) : FVec Ideal S512x512 .f32 := scale (mulf x x) 0x3D000000#32

theorem pay3_eq (x : FVec Ideal S512x512 .f32) :
    k0_pay3 x = sqStep (sqStep (sqStep (prod (sq x) (hornerStep (sq x) (hornerStep (sq x) (hornerStep (sq x)
      (hornerStep (sq x) (addf (k0_pay2 (F := Ideal)) (scale (sq x) 0x3E2AAAAB#32)) 0x3E4CCCCD#32)
      0x3E800000#32) 0x3EAAAAAB#32) 0x3F000000#32)))) := rfl

theorem rep_prod {v w : FVec Ideal S512x512 .f32} {M N : Mx} (hv : Rep v M) (hw : Rep w N) : Rep (prod v w) (M * N) := by
  intro i j
  have h : prod v w (ix2 i j) = ∑ k, v (ix2 i k) * w (ix2 k j) := by
    unfold prod
    pointwise []
  rw [h, Matrix.mul_apply, coe_sum]
  exact Finset.sum_congr rfl fun k _ => by rw [hv, hw, EReal.coe_ennreal_mul]

theorem rep_add {v w : FVec Ideal S512x512 .f32} {M N : Mx} (hv : Rep v M) (hw : Rep w N) : Rep (addf v w) (M + N) := by
  intro i j
  have h : addf v w (ix2 i j) = v (ix2 i j) + w (ix2 i j) := rfl
  rw [h, hv, hw, Matrix.add_apply, EReal.coe_ennreal_add]

theorem rep_scale {v : FVec Ideal S512x512 .f32} {M : Mx} (hv : Rep v M) {b : BitVec 32} (hb : 0 ≤ Ideal.ofBits .f32 b) :
    Rep (scale v b) (lit b • M) := by
  intro i j
  have h : scale v b (ix2 i j) = v (ix2 i j) * Ideal.ofBits .f32 b := rfl
  rw [h, hv, Matrix.smul_apply, smul_eq_mul, EReal.coe_ennreal_mul, lit_coe hb, mul_comm]

theorem rep_sq (x : FVec Ideal S512x512 .f32) (hb : 0 ≤ Ideal.ofBits .f32 0x3D000000#32) : Rep (sq x) (base x) := by
  intro i j
  have h : sq x (ix2 i j) = x (ix2 i j) * x (ix2 i j) * Ideal.ofBits .f32 0x3D000000#32 := rfl
  rw [h, base, EReal.coe_ennreal_mul, lit_coe hb, EReal.coe_toENNReal (mul_self _)]

theorem rep_eye : Rep (k0_pay2 (F := Ideal)) 1 := by
  intro i j
  unfold k0_pay2
  pointwise []
  rw [Matrix.one_apply]
  by_cases h : i = j
  · subst h
    have e : (BitVec.setWidth 32 (IntOp.cmpi .eq (BitVec.ofNat 32 i.val) (BitVec.ofNat 32 i.val))) = 1#32 := by
      simp [IntOp.cmpi]
    rw [if_pos rfl, e, EReal.coe_ennreal_one]
    change (((1#32).toInt : ℝ) : EReal) = 1
    norm_num
  · have hne : BitVec.ofNat 32 i.val ≠ BitVec.ofNat 32 j.val := fun hh => h (by
      have := congrArg BitVec.toNat hh
      simp only [BitVec.toNat_ofNat] at this
      apply Fin.ext; omega)
    have e : (BitVec.setWidth 32 (IntOp.cmpi .eq (BitVec.ofNat 32 i.val) (BitVec.ofNat 32 j.val))) = 0#32 := by
      have hb : (BitVec.ofNat 32 i.val == BitVec.ofNat 32 j.val) = false := beq_eq_false_iff_ne.2 hne
      change BitVec.setWidth 32 (BitVec.ofBool (BitVec.ofNat 32 i.val == BitVec.ofNat 32 j.val)) = 0#32
      rw [hb]
      rfl
    rw [if_neg h, e, EReal.coe_ennreal_zero]
    change (((0#32).toInt : ℝ) : EReal) = 0
    norm_num

theorem pay1_eq (v e : FVec Ideal S512x512 .f32) : k0_pay1 v e (ix2 0 0)
    = ∑ i, ∑ j, sqStep (sqStep e) (ix2 i j) * v (ix2 i j) := by
  have h : ∀ s : FVec Ideal S512x512 .f32, shapeCast S1x1 (multiReduction .add [0] S1 (shapeCast S512x1
      (multiReduction .add [1] S512 (mulf s v) 0x00000000#32 reduces_S512x512_S512 (.inl rfl) rfl) shapeCasts_S512_S512x1)
      0x00000000#32 reduces_S512x1_S1 (.inl rfl) rfl) shapeCasts_S1_S1x1 (ix2 0 0)
      = ∑ i, ∑ j, s (ix2 i j) * v (ix2 i j) := by
    intro s
    pointwise []
  exact h _

theorem rep_step {e : FVec Ideal S512x512 .f32} {M : Mx} (he : Rep e M) : Rep (sqStep e) (step M) := by
  intro i j
  have h : sqStep e (ix2 i j) = Ideal.ofBits .f32 0x40000000#32 * e (ix2 i j) + prod e e (ix2 i j) := rfl
  have h2 : Ideal.ofBits .f32 0x40000000#32 = ((2 : ℝ≥0∞) : EReal) := by
    simp [Ideal.ofBits, Ideal.ieee, -EReal.coe_mul, -EReal.coe_neg]
    norm_num
    rfl
  rw [h, he, rep_prod he he, h2, step, Matrix.add_apply, Matrix.smul_apply, smul_eq_mul, EReal.coe_ennreal_add,
    EReal.coe_ennreal_mul]

theorem rep_horner {t p : FVec Ideal S512x512 .f32} {M N : Mx} (ht : Rep t M) (hp : Rep p N) {b : BitVec 32}
    (hb : 0 ≤ Ideal.ofBits .f32 b) : Rep (hornerStep t p b) (1 + lit b • (M * N)) :=
  rep_add rep_eye (rep_scale (rep_prod ht hp) hb)

theorem rep_pay3 (x : FVec Ideal S512x512 .f32) : Rep (k0_pay3 x) (step (step (step (horner (lit 0x3F000000#32)
    (lit 0x3EAAAAAB#32) (lit 0x3E800000#32) (lit 0x3E4CCCCD#32) (lit 0x3E2AAAAB#32) (base x))))) := by
  have ht := rep_sq x (lit_nonneg (by decide) (by decide))
  rw [pay3_eq]
  exact rep_step (rep_step (rep_step (rep_prod ht (rep_horner ht (rep_horner ht (rep_horner ht (rep_horner ht
    (rep_add rep_eye (rep_scale ht (lit_nonneg (by decide) (by decide)))) (lit_nonneg (by decide) (by decide))) (lit_nonneg (by decide) (by decide)))
    (lit_nonneg (by decide) (by decide))) (lit_nonneg (by decide) (by decide))))))

/-- The kernel's result. -/
theorem trace_eq (x : FVec Ideal S512x512 .f32) :
    (Value.G1 (F := Ideal) x (ix2 0 0) : EReal) = ((∑ i, expm1 x i i : ℝ≥0∞) : EReal) := by
  have h := rep_step (rep_step (rep_pay3 x))
  show k0_pay1 (k0_pay2 (F := Ideal)) (k0_pay3 x) (ix2 0 0) = _
  rw [pay1_eq, coe_sum]
  refine Finset.sum_congr rfl fun i _ => ?_
  simp only [h i, rep_eye i]
  rw [Finset.sum_eq_single i (fun j _ hj => by rw [Matrix.one_apply_ne hj.symm, EReal.coe_ennreal_zero, mul_zero])
    (fun hi => absurd (Finset.mem_univ i) hi), Matrix.one_apply_eq, EReal.coe_ennreal_one, mul_one]
  rfl

end Cert.KernelExpmIdeal.Trace
-- ==== Proof.ExpmRef.lean ====
/- The reference's trace: the trace of the exponential's polynomial, less the order. -/
module

public import proofs.«01_k».proof.Proof.Series
public import proofs.«01_k».proof.Proof.Gen.ReferenceExpmIdeal.Read
public import Idealize.ShloMosaic.Lib.Pointwise

@[expose] public section

set_option synthInstance.maxSize 4096
set_option maxRecDepth 16384

noncomputable section

namespace Cert.ReferenceExpmIdeal.Trace

open Idealize.ShloMosaic Cert.ReferenceExpmIdeal Cert.ReferenceExpmIdeal.Gen Cert.ReferenceExpmIdeal.Read Cert.Series ENNReal

/-- The reference's matrix product. -/
def prod (v w : FVec Ideal S512x512 .f32) : FVec Ideal S512x512 .f32 :=
  Host.dotGeneral dot_S512x512_S512x512_S512x512_1_0_0_1_n_n none v w

/-- A vector times a constant. -/
def scale (v : FVec Ideal S512x512 .f32) (b : BitVec 32) : FVec Ideal S512x512 .f32 :=
  mulf v (broadcastInDim S512x512 ![] bcast_S_S512x512 (constant S_ .f32 b))

theorem rep_prod {v w : FVec Ideal S512x512 .f32} {M N : Mx} (hv : Rep v M) (hw : Rep w N) : Rep (prod v w) (M * N) := by
  intro i j
  have h : prod v w (ix2 i j) = ∑ k, v (ix2 i k) * w (ix2 k j) := by
    unfold prod
    pointwise []
  rw [h, Matrix.mul_apply, coe_sum]
  exact Finset.sum_congr rfl fun k _ => by rw [hv, hw, EReal.coe_ennreal_mul]

theorem rep_add {v w : FVec Ideal S512x512 .f32} {M N : Mx} (hv : Rep v M) (hw : Rep w N) : Rep (addf v w) (M + N) := by
  intro i j
  have h : addf v w (ix2 i j) = v (ix2 i j) + w (ix2 i j) := rfl
  rw [h, hv, hw, Matrix.add_apply, EReal.coe_ennreal_add]

theorem rep_scale {v : FVec Ideal S512x512 .f32} {M : Mx} (hv : Rep v M) {b : BitVec 32} (hb : 0 ≤ Ideal.ofBits .f32 b) :
    Rep (scale v b) (lit b • M) := by
  intro i j
  have h : scale v b (ix2 i j) = v (ix2 i j) * Ideal.ofBits .f32 b := rfl
  rw [h, hv, Matrix.smul_apply, smul_eq_mul, EReal.coe_ennreal_mul, lit_coe hb, mul_comm]

variable (x : FVec Ideal S512x512 .f32)

theorem rep_base : Rep (val_main_v2 (F := Ideal) x) (base x) := by
  intro i j
  have h : val_main_v2 (F := Ideal) x (ix2 i j) = x (ix2 i j) * x (ix2 i j) * Ideal.ofBits .f32 0x3D000000#32 := rfl
  rw [h, base, EReal.coe_ennreal_mul, lit_coe (lit_nonneg (by decide) (by decide)), EReal.coe_toENNReal (mul_self _)]

/-- The mask of the diagonal: a row's number, zero added, against a column's. -/
theorem diag (i j : Fin 512) : IntOp.cmpi .eq (IntOp.addi (BitVec.ofNat 32 i.val) 0#32) (BitVec.ofNat 32 j.val)
    = BitVec.ofBool (decide (i = j)) := by
  have h : (BitVec.ofNat 32 i.val + 0#32 == BitVec.ofNat 32 j.val) = decide (i = j) := by
    rw [BitVec.add_zero]
    by_cases h : i = j
    · subst h
      simp
    · rw [decide_eq_false h]
      refine beq_eq_false_iff_ne.2 fun hh => h ?_
      have := congrArg BitVec.toNat hh
      simp only [BitVec.toNat_ofNat] at this
      apply Fin.ext; omega
  exact congrArg BitVec.ofBool h

theorem rep_eye : Rep (val_main_v8 (F := Ideal)) 1 := by
  intro i j
  have h : val_main_v8 (F := Ideal) (ix2 i j)
      = (((IntOp.cmpi .eq (IntOp.addi (BitVec.ofNat 32 i.val) 0#32) (BitVec.ofNat 32 j.val)).toNat : ℝ) : EReal) := rfl
  rw [h, diag, Matrix.one_apply]
  by_cases h : i = j <;> simp [h]

theorem rep_first : Rep (val_main_v11 (F := Ideal) x) (base x) := by
  have h : Rep (val_main_v11 (F := Ideal) x) (lit 0x3F800000#32 • (1 * base x)) :=
    rep_scale (rep_prod rep_eye (rep_base x)) (lit_nonneg (by decide) (by decide))
  have e : lit 0x3F800000#32 = 1 := by
    unfold lit
    rw [Ideal.ofBits_one_f32, ← EReal.coe_ennreal_one]
    exact EReal.toENNReal_coe
  rwa [e, one_smul, one_mul] at h

/-- A term from the one before. -/
theorem rep_next {u : FVec Ideal S512x512 .f32} {M : Mx} (hu : Rep u M) {b : BitVec 32} (hb : 0 ≤ Ideal.ofBits .f32 b) :
    Rep (scale (prod u (val_main_v2 (F := Ideal) x)) b) (next (lit b) (base x) M) :=
  rep_scale (rep_prod hu (rep_base x)) hb

theorem rep_taylor : Rep (val_main_v32 (F := Ideal) x) (taylor (lit 0x3F000000#32)
    (lit 0x3EAAAAAB#32) (lit 0x3E800000#32) (lit 0x3E4CCCCD#32) (lit 0x3E2AAAAB#32) (base x)) := by
  have h1 := rep_first x
  have h2 : Rep (val_main_v15 (F := Ideal) x) _ := rep_next x h1 (b := 0x3F000000#32) (lit_nonneg (by decide) (by decide))
  have h3 : Rep (val_main_v19 (F := Ideal) x) _ := rep_next x h2 (b := 0x3EAAAAAB#32) (lit_nonneg (by decide) (by decide))
  have h4 : Rep (val_main_v23 (F := Ideal) x) _ := rep_next x h3 (b := 0x3E800000#32) (lit_nonneg (by decide) (by decide))
  have h5 : Rep (val_main_v27 (F := Ideal) x) _ := rep_next x h4 (b := 0x3E4CCCCD#32) (lit_nonneg (by decide) (by decide))
  have h6 : Rep (val_main_v31 (F := Ideal) x) _ := rep_next x h5 (b := 0x3E2AAAAB#32) (lit_nonneg (by decide) (by decide))
  exact rep_add (rep_add (rep_add (rep_add (rep_add (rep_add rep_eye h1) h2) h3) h4) h5) h6

theorem rep_expm : Rep (val_main_v37 (F := Ideal) x) (expm x) := by
  have h0 := rep_taylor x
  have h1 : Rep (val_main_v33 (F := Ideal) x) _ := rep_prod h0 h0
  have h2 : Rep (val_main_v34 (F := Ideal) x) _ := rep_prod h1 h1
  have h3 : Rep (val_main_v35 (F := Ideal) x) _ := rep_prod h2 h2
  have h4 : Rep (val_main_v36 (F := Ideal) x) _ := rep_prod h3 h3
  exact rep_prod h4 h4

theorem masked (i j : Fin 512) : (val_main_call0_v6 (F := Ideal) x (ix2 i j) : EReal)
    = if i = j then ((expm x i j : ℝ≥0∞) : EReal) else 0 := by
  have h : val_main_call0_v6 (F := Ideal) x (ix2 i j)
      = if IntOp.cmpi .eq (IntOp.addi (BitVec.ofNat 32 i.val) 0#32) (BitVec.ofNat 32 j.val) = 1#1
        then val_main_v37 (F := Ideal) x (ix2 i j) else Ideal.ofBits .f32 0x00000000#32 := rfl
  rw [h, diag, rep_expm x]
  by_cases h : i = j <;> simp [h, Ideal.ofBits_zero_f32]

/-- The reference's result. -/
theorem trace_eq : (val_main_v40 (F := Ideal) x (ix2 0 0) : EReal) = ((∑ i, expm1 x i i : ℝ≥0∞) : EReal) := by
  have h512 : Ideal.ofBits .f32 0x44000000#32 = ((512 : ℝ) : EReal) := by
    simp [Ideal.ofBits, Ideal.ieee, -EReal.coe_mul, -EReal.coe_neg]
    norm_num
  have h38 : ∀ i, (val_main_v38 (F := Ideal) x i : EReal) = ((∑ i, expm x i i : ℝ≥0∞) : EReal) := by
    intro i
    have h : (val_main_v38 (F := Ideal) x i : EReal) = ∑ a : Fin 512, ∑ b : Fin 512, val_main_call0_v6 (F := Ideal) x (ix2 a b) := by
      unfold val_main_v38
      generalize val_main_call0_v6 (F := Ideal) x = y
      unfold val_main_call0_cst_0
      pointwise []
    rw [h, coe_sum]
    refine Finset.sum_congr rfl fun a _ => ?_
    simp only [masked]
    simp
  obtain ⟨k, h⟩ : ∃ k, (val_main_v40 (F := Ideal) x (ix2 0 0) : EReal)
      = val_main_v38 (F := Ideal) x k - Ideal.ofBits .f32 0x44000000#32 := ⟨_, rfl⟩
  rw [h, h38, h512, trace_sub]

end Cert.ReferenceExpmIdeal.Trace
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelExpm
public import proofs.«01_k».proof.Proof.Gen.KernelExpm.Frame
public import proofs.«01_k».proof.Proof.Gen.KernelExpmIdeal
public import proofs.«01_k».proof.Proof.Gen.KernelExpmIdeal.Frame
public import proofs.«01_k».proof.Proof.Gen.KernelExpmIdeal.Value
public import proofs.«01_k».proof.Proof.Gen.ReferenceExpmIdeal
public import proofs.«01_k».proof.Proof.Gen.ReferenceExpmIdeal.Run
public import proofs.«01_k».proof.Proof.Gen.ReferenceExpmIdeal.Read
public import proofs.«01_k».proof.Proof.Final
public import proofs.«01_k».proof.Proof.RefValue
public import proofs.«01_k».proof.Proof.ExpmValue
public import proofs.«01_k».proof.Proof.ExpmRef
public import Idealize.ShloMosaic.Adequacy
public import Idealize.ShloMosaic.Init

@[expose] public section

noncomputable section

namespace Cert.Proof

open Idealize.ShloMosaic Idealize.SL.Sem Cert.Kernel

/-- The reference's frame, off its run: the arguments unchanged, and a program of host operations has no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- At the kernel's arguments the reference's result array is `KernelIdeal.Entropy.result`. -/
theorem reference_result (m : (ℓ : Loc Cert.KernelIdeal.nD Cert.KernelIdeal.τ Cert.KernelIdeal.sig) → Buf (Elt Ideal) ℓ)
    (c : Dev Cert.KernelIdeal.nD) :
    Cert.ReferenceIdeal.Read.val_main_v88 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
      = Cert.KernelIdeal.Entropy.result m c := by
  funext i
  obtain ⟨R, a, rfl⟩ : ∃ (R : Fin 16384) (a : Fin 64), i = ix2 R a :=
    ⟨i 0, i 1, by funext d; match d with | ⟨0, _⟩ => rfl | ⟨1, _⟩ => rfl⟩
  exact Cert.ReferenceIdeal.RefValue.v88_at _ _ _ _ _ _ _ R a

/-- From memories agreeing on the arguments the kernel and the reference end with equal results. -/
theorem algebraic : Cert.algebraic_KernelIdeal_ReferenceIdeal := fun m g m' g' _ hagree =>
  ⟨fun c => Cert.KernelIdeal.Entropy.result m c,
    (θ_run Cert.KernelIdeal.defs _ _).mono
      (fun r h c => ⟨(h c).1.trans (Cert.KernelIdeal.Entropy.final9 m c), (h c).2⟩)
      (Cert.KernelIdeal.Value.run_blocks m g),
    (θ_run Cert.ReferenceIdeal.defs _ _).mono
      (fun r h c => ⟨(h c).1.trans (by
        obtain ⟨h0, h1, h2, h3, h4, h5, h6⟩ := hagree c
        rw [Cert.ReferenceIdeal.Read.val_main_v88_eq, h0, h1, h2, h3, h4, h5, h6]
        exact reference_result m c), (h c).2⟩)
      (Cert.ReferenceIdeal.Value.run (F := Ideal) m' g')⟩

/-- The frame of the exponential's reference, off its run. -/
theorem frame_expm_ri : Cert.quiescent_ReferenceExpmIdeal := fun m ρ _ =>
  (θ_run Cert.ReferenceExpmIdeal.defs _ _).mono (fun r h => ⟨fun c => (h c).2,
      Idealize.ShloMosaic.sem_eq_zero_of_no_sems (by decide) r.2⟩)
    (Cert.ReferenceExpmIdeal.Value.run (F := Ideal) m ρ)

/-- The two traces are equal. -/
theorem trace_result (x : FVec Ideal Cert.KernelExpmIdeal.S512x512 .f32) :
    Cert.ReferenceExpmIdeal.Read.val_main_v40 (F := Ideal) x = Cert.KernelExpmIdeal.Value.G1 (F := Ideal) x := by
  funext i
  obtain rfl : i = ix2 0 0 := by
    funext d
    match d with
    | ⟨0, _⟩ => exact Subsingleton.elim (α := Fin 1) _ _
    | ⟨1, _⟩ => exact Subsingleton.elim (α := Fin 1) _ _
  exact (Cert.ReferenceExpmIdeal.Trace.trace_eq x).trans (Cert.KernelExpmIdeal.Trace.trace_eq x).symm

/-- From memories agreeing on the adjacency the kernel of the exponential and its reference end with equal traces. -/
theorem algebraic_expm : Cert.algebraic_KernelExpmIdeal_ReferenceExpmIdeal := fun m g m' g' _ hagree =>
  ⟨fun c => Cert.KernelExpmIdeal.Value.G1
      (m ((c.tc : Thread Cert.KernelExpmIdeal.nD Cert.KernelExpmIdeal.τ).loc Cert.KernelExpmIdeal.main_arg0)),
    Cert.KernelExpmIdeal.Value.run m g,
    (θ_run Cert.ReferenceExpmIdeal.defs _ _).mono
      (fun r h c => ⟨((h c).1.trans (Cert.ReferenceExpmIdeal.Read.val_main_v40_eq _)).trans
        ((congrArg (Cert.ReferenceExpmIdeal.Read.val_main_v40 (F := Ideal)) (hagree c)).trans (trace_result _)), (h c).2⟩)
      (Cert.ReferenceExpmIdeal.Value.run (F := Ideal) m' g')⟩

theorem claim : Cert.Claim := ⟨Cert.Kernel.Gen.facts, Cert.KernelIdeal.Gen.facts, Cert.ReferenceIdeal.Gen.facts,
  Cert.KernelExpm.Gen.facts, Cert.KernelExpmIdeal.Gen.facts, Cert.ReferenceExpmIdeal.Gen.facts,
  fun m ρ _ => Cert.Kernel.Gen.frame m ρ, fun m ρ _ => Cert.KernelIdeal.Gen.frame m ρ, frame_ri,
  fun m ρ _ => Cert.KernelExpm.Gen.frame m ρ, fun m ρ _ => Cert.KernelExpmIdeal.Gen.frame m ρ, frame_expm_ri,
  IdealRules.sign_bit.statement _ .f32, algebraic, trivial, algebraic_expm⟩

end Cert.Proof

end
